-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small [hPre_small : Cert.Pre_small.Facts] (m : (ℓ : Loc Cert.KernelIdeal.nD Cert.KernelIdeal.τ Cert.KernelIdeal.sig) → Buf (Elt Ideal) ℓ) : Prop :=
  ∀ c : Dev Cert.KernelIdeal.nD,
    (Cert.Pre_small.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small [hPre_small : Cert.Pre_small.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_small [hKernelIdeal : Cert.KernelIdeal.Facts] [hPre_small : Cert.Pre_small.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_small [hReferenceIdeal : Cert.ReferenceIdeal.Facts] [hPre_small : Cert.Pre_small.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "four_root_2" .f32 0x40B504F3#32 ((Real.sqrt 32 : ℝ) : EReal)
  ∧ IdealRules.named_const.Statement Cert.KernelIdeal.κ "root_2" .f32 0x3FB504F3#32 ((Real.sqrt 2 : ℝ) : EReal)
  ∧ IdealRules.named_const.Statement Cert.KernelIdeal.κ "four_root_5" .f32 0x410F1BBD#32 ((Real.sqrt 80 : ℝ) : EReal)
  ∧ IdealRules.named_const.Statement Cert.KernelIdeal.κ "root_5" .f32 0x400F1BBD#32 ((Real.sqrt 5 : ℝ) : EReal)
  ∧ IdealRules.named_const.Statement Cert.KernelIdeal.κ "four_root_8" .f32 0x413504F3#32 ((Real.sqrt 128 : ℝ) : EReal)
  ∧ IdealRules.named_const.Statement Cert.KernelIdeal.κ "root_8" .f32 0x403504F3#32 ((Real.sqrt 8 : ℝ) : EReal)
  ∧ IdealRules.named_const.Statement Cert.KernelIdeal.κ "four_root_10" .f32 0x414A62C2#32 ((Real.sqrt 160 : ℝ) : EReal)
  ∧ IdealRules.named_const.Statement Cert.KernelIdeal.κ "root_10" .f32 0x404A62C2#32 ((Real.sqrt 10 : ℝ) : EReal)
  ∧ IdealRules.named_const.Statement Cert.KernelIdeal.κ "four_root_13" .f32 0x4166C15A#32 ((Real.sqrt 208 : ℝ) : EReal)
  ∧ IdealRules.named_const.Statement Cert.KernelIdeal.κ "root_13" .f32 0x4066C15A#32 ((Real.sqrt 13 : ℝ) : EReal)
  ∧ IdealRules.named_const.Statement Cert.KernelIdeal.κ "four_root_17" .f32 0x4183F07B#32 ((Real.sqrt 272 : ℝ) : EReal)
  ∧ IdealRules.named_const.Statement Cert.KernelIdeal.κ "root_17" .f32 0x4083F07B#32 ((Real.sqrt 17 : ℝ) : EReal)
  ∧ IdealRules.named_const.Statement Cert.KernelIdeal.κ "four_root_18" .f32 0x4187C3B6#32 ((Real.sqrt 288 : ℝ) : EReal)
  ∧ IdealRules.named_const.Statement Cert.KernelIdeal.κ "root_18" .f32 0x4087C3B6#32 ((Real.sqrt 18 : ℝ) : EReal)
  ∧ IdealRules.named_const.Statement Cert.KernelIdeal.κ "four_root_20" .f32 0x418F1BBD#32 ((Real.sqrt 320 : ℝ) : EReal)
  ∧ IdealRules.named_const.Statement Cert.KernelIdeal.κ "root_20" .f32 0x408F1BBD#32 ((Real.sqrt 20 : ℝ) : EReal)

def algebraic_KernelIdeal_ReferenceIdeal_pre_small [hKernelIdeal : Cert.KernelIdeal.Facts] [hReferenceIdeal : Cert.ReferenceIdeal.Facts] [hPre_small : Cert.Pre_small.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_small : Cert.Pre_small.Facts),
    quiescent_Kernel (hKernel := hKernel)
    ∧ quiescent_KernelIdeal (hKernelIdeal := hKernelIdeal)
    ∧ quiescent_KernelIdeal_pre_small (hKernelIdeal := hKernelIdeal) (hPre_small := hPre_small)
    ∧ quiescent_ReferenceIdeal (hReferenceIdeal := hReferenceIdeal)
    ∧ quiescent_ReferenceIdeal_pre_small (hReferenceIdeal := hReferenceIdeal) (hPre_small := hPre_small)
    ∧ preserves_Kernel_KernelIdeal
    ∧ algebraic_KernelIdeal_ReferenceIdeal_pre_small (hKernelIdeal := hKernelIdeal) (hReferenceIdeal := hReferenceIdeal) (hPre_small := hPre_small)
-- ==== Pre_small.lean ====
abbrev S1x3x512x512 : Shape := ⟨4, ![1, 3, 512, 512]⟩
abbrev S1x1x512x512 : Shape := ⟨4, ![1, 1, 512, 512]⟩
abbrev S_ : Shape := ⟨0, ![]⟩

class Facts : Prop where
  bcast_S_S1x1x512x512 : S_.BroadcastsInDim S1x1x512x512 (![] : Fin 0 → Fin S1x1x512x512.rank)
  reducesTo_S1x1x512x512_S_d0_1_2_3 : S1x1x512x512.ReducesTo [0, 1, 2, 3] S_
  h_S_ : 0 < S_.numel

variable [Facts]

def fn {F : FTy → Type} [FloatOps F] (main_arg0 : FVec F S1x3x512x512 .f32) (main_arg1 : FVec F S1x1x512x512 .f32) : IVec S_ 1 :=
  let main_v0 : FVec F S1x1x512x512 .f32 := Host.absf main_arg1
  let main_cst : FVec F S_ .f32 := constant S_ .f32 0x40A00000#32
  let main_v1 : FVec F S1x1x512x512 .f32 := broadcastInDim S1x1x512x512 ![] bcast_S_S1x1x512x512 main_cst
  let main_v2 : IVec S1x1x512x512 1 := cmpf .olt main_v0 main_v1
  let main_c : IVec S_ 1 := constantI S_ 1 1#1
  let main_v3 : IVec S_ 1 := (fun x v => Host.reduce IntOp.andi x v reducesTo_S1x1x512x512_S_d0_1_2_3 h_S_) main_v2 main_c
  main_v3
-- ==== Kernel.lean ====
abbrev S1x3x512x512 : Shape := ⟨4, ![1, 3, 512, 512]⟩
abbrev S1x1x512x512 : Shape := ⟨4, ![1, 1, 512, 512]⟩
abbrev S3x6x128x6x144 : Shape := ⟨5, ![3, 6, 128, 6, 144]⟩
abbrev S_ : Shape := ⟨0, ![]⟩
abbrev S3x6x128x864 : Shape := ⟨4, ![3, 6, 128, 864]⟩
abbrev S2x6x266x256 : Shape := ⟨4, ![2, 6, 266, 256]⟩
abbrev S3x512x512 : Shape := ⟨3, ![3, 512, 512]⟩
abbrev S512x512 : Shape := ⟨2, ![512, 512]⟩
abbrev S3x128x512 : Shape := ⟨3, ![3, 128, 512]⟩
abbrev S6x4x864x512 : Shape := ⟨4, ![6, 4, 864, 512]⟩
abbrev S3x144x512 : Shape := ⟨3, ![3, 144, 512]⟩
abbrev S144x512 : Shape := ⟨2, ![144, 512]⟩
abbrev S1x144x512 : Shape := ⟨3, ![1, 144, 512]⟩
abbrev S1x1x144x512 : Shape := ⟨4, ![1, 1, 144, 512]⟩
abbrev S1x1x128x864 : Shape := ⟨4, ![1, 1, 128, 864]⟩
abbrev S128x864 : Shape := ⟨2, ![128, 864]⟩
abbrev S1x1x864x512 : Shape := ⟨4, ![1, 1, 864, 512]⟩
abbrev S864x512 : Shape := ⟨2, ![864, 512]⟩
abbrev S128x512 : Shape := ⟨2, ![128, 512]⟩
abbrev S512x266 : Shape := ⟨2, ![512, 266]⟩
abbrev S1x1x266x256 : Shape := ⟨4, ![1, 1, 266, 256]⟩
abbrev S266x256 : Shape := ⟨2, ![266, 256]⟩
abbrev S512x256 : Shape := ⟨2, ![512, 256]⟩
abbrev S1x1x128x720 : Shape := ⟨4, ![1, 1, 128, 720]⟩
abbrev S128x720 : Shape := ⟨2, ![128, 720]⟩
abbrev S1x1x720x512 : Shape := ⟨4, ![1, 1, 720, 512]⟩
abbrev S720x512 : Shape := ⟨2, ![720, 512]⟩
abbrev S1x1x128x576 : Shape := ⟨4, ![1, 1, 128, 576]⟩
abbrev S128x576 : Shape := ⟨2, ![128, 576]⟩
abbrev S1x1x576x512 : Shape := ⟨4, ![1, 1, 576, 512]⟩
abbrev S576x512 : Shape := ⟨2, ![576, 512]⟩
abbrev S1x1x128x144 : Shape := ⟨4, ![1, 1, 128, 144]⟩
abbrev S128x144 : Shape := ⟨2, ![128, 144]⟩
abbrev S1x128x512 : Shape := ⟨3, ![1, 128, 512]⟩

abbrev nBuf : Space → Nat
  | .hbm => 52
  | .vmem => 10
  | .smem => 0
  | _ => 0

abbrev bufTy : (tb : Table) → Fin (tcTables nBuf tb) → BufTy
  | .hbm, ⟨0, _⟩ => ⟨S1x3x512x512, .f32⟩
  | .hbm, ⟨1, _⟩ => ⟨S1x1x512x512, .f32⟩
  | .hbm, ⟨2, _⟩ => ⟨S3x6x128x6x144, .i32⟩
  | .hbm, ⟨3, _⟩ => ⟨S3x6x128x6x144, .i32⟩
  | .hbm, ⟨4, _⟩ => ⟨S3x6x128x6x144, .i32⟩
  | .hbm, ⟨5, _⟩ => ⟨S3x6x128x6x144, .i32⟩
  | .hbm, ⟨6, _⟩ => ⟨S3x6x128x6x144, .i32⟩
  | .hbm, ⟨7, _⟩ => ⟨S_, .i32⟩
  | .hbm, ⟨8, _⟩ => ⟨S3x6x128x6x144, .i32⟩
  | .hbm, ⟨9, _⟩ => ⟨S3x6x128x6x144, .i32⟩
  | .hbm, ⟨10, _⟩ => ⟨S3x6x128x6x144, .i32⟩
  | .hbm, ⟨11, _⟩ => ⟨S3x6x128x6x144, .i32⟩
  | .hbm, ⟨12, _⟩ => ⟨S3x6x128x6x144, .i32⟩
  | .hbm, ⟨13, _⟩ => ⟨S3x6x128x6x144, .i32⟩
  | .hbm, ⟨14, _⟩ => ⟨S_, .i32⟩
  | .hbm, ⟨15, _⟩ => ⟨S3x6x128x6x144, .i32⟩
  | .hbm, ⟨16, _⟩ => ⟨S3x6x128x6x144, .i1⟩
  | .hbm, ⟨17, _⟩ => ⟨S3x6x128x6x144, .i32⟩
  | .hbm, ⟨18, _⟩ => ⟨S3x6x128x6x144, .i1⟩
  | .hbm, ⟨19, _⟩ => ⟨S3x6x128x6x144, .i32⟩
  | .hbm, ⟨20, _⟩ => ⟨S3x6x128x6x144, .i1⟩
  | .hbm, ⟨21, _⟩ => ⟨S3x6x128x6x144, .i1⟩
  | .hbm, ⟨22, _⟩ => ⟨S3x6x128x6x144, .i1⟩
  | .hbm, ⟨23, _⟩ => ⟨S_, .f32⟩
  | .hbm, ⟨24, _⟩ => ⟨S_, .f32⟩
  | .hbm, ⟨25, _⟩ => ⟨S3x6x128x6x144, .f32⟩
  | .hbm, ⟨26, _⟩ => ⟨S3x6x128x6x144, .f32⟩
  | .hbm, ⟨27, _⟩ => ⟨S3x6x128x6x144, .f32⟩
  | .hbm, ⟨28, _⟩ => ⟨S3x6x128x864, .f32⟩
  | .hbm, ⟨29, _⟩ => ⟨S2x6x266x256, .i32⟩
  | .hbm, ⟨30, _⟩ => ⟨S2x6x266x256, .i32⟩
  | .hbm, ⟨31, _⟩ => ⟨S2x6x266x256, .i32⟩
  | .hbm, ⟨32, _⟩ => ⟨S2x6x266x256, .i32⟩
  | .hbm, ⟨33, _⟩ => ⟨S_, .i32⟩
  | .hbm, ⟨34, _⟩ => ⟨S2x6x266x256, .i32⟩
  | .hbm, ⟨35, _⟩ => ⟨S2x6x266x256, .i32⟩
  | .hbm, ⟨36, _⟩ => ⟨S2x6x266x256, .i32⟩
  | .hbm, ⟨37, _⟩ => ⟨S2x6x266x256, .i32⟩
  | .hbm, ⟨38, _⟩ => ⟨S2x6x266x256, .i1⟩
  | .hbm, ⟨39, _⟩ => ⟨S2x6x266x256, .i32⟩
  | .hbm, ⟨40, _⟩ => ⟨S2x6x266x256, .i1⟩
  | .hbm, ⟨41, _⟩ => ⟨S2x6x266x256, .i1⟩
  | .hbm, ⟨42, _⟩ => ⟨S_, .f32⟩
  | .hbm, ⟨43, _⟩ => ⟨S_, .f32⟩
  | .hbm, ⟨44, _⟩ => ⟨S2x6x266x256, .f32⟩
  | .hbm, ⟨45, _⟩ => ⟨S2x6x266x256, .f32⟩
  | .hbm, ⟨46, _⟩ => ⟨S2x6x266x256, .f32⟩
  | .hbm, ⟨47, _⟩ => ⟨S3x6x128x864, .bf16⟩
  | .hbm, ⟨48, _⟩ => ⟨S2x6x266x256, .bf16⟩
  | .hbm, ⟨49, _⟩ => ⟨S3x512x512, .f32⟩
  | .hbm, ⟨50, _⟩ => ⟨S512x512, .f32⟩
  | .hbm, ⟨51, _⟩ => ⟨S3x512x512, .f32⟩
  | .local _ .vmem, ⟨0, _⟩ => ⟨S3x512x512, .f32⟩
  | .local _ .vmem, ⟨1, _⟩ => ⟨S512x512, .f32⟩
  | .local _ .vmem, ⟨2, _⟩ => ⟨S3x6x128x864, .bf16⟩
  | .local _ .vmem, ⟨3, _⟩ => ⟨S2x6x266x256, .bf16⟩
  | .local _ .vmem, ⟨4, _⟩ => ⟨S3x128x512, .f32⟩
  | .local _ .vmem, ⟨5, _⟩ => ⟨S3x128x512, .f32⟩
  | .local _ .vmem, ⟨6, _⟩ => ⟨S6x4x864x512, .bf16⟩
  | .local _ .vmem, ⟨7, _⟩ => ⟨S512x512, .f32⟩
  | .local _ .vmem, ⟨8, _⟩ => ⟨S3x144x512, .f32⟩
  | .local _ .vmem, ⟨9, _⟩ => ⟨S512x512, .bf16⟩
  | _, _ => ⟨S1x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c46_i32 : BitVec 32 := 46#32
  let c0_i32 : BitVec 32 := 0#32
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let v2 : BitVec 32 := Scalar.maxsi c0_i32 v1
  let v3 : BitVec 32 := Scalar.minsi c46_i32 v2
  let c8_i32 : BitVec 32 := 8#32
  let v4 : BitVec 32 := Scalar.muli v3 c8_i32
  let v10 : Index := Scalar.indexCast v4
  let c0 : Index := 0#32
  ![v10.toNat, 0]
def k0_off2 (i : grid0.Coords) : Fin 3 → Nat :=
  let c0_18 : Index := 0#32
  let c46_i32 : BitVec 32 := 46#32
  let c0_i32 : BitVec 32 := 0#32
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let v2 : BitVec 32 := Scalar.maxsi c0_i32 v1
  let v3 : BitVec 32 := Scalar.minsi c46_i32 v2
  let c8_i32 : BitVec 32 := 8#32
  let v4 : BitVec 32 := Scalar.muli v3 c8_i32
  let v43 : Index := Scalar.indexCast v4
  let c0_19 : Index := 0#32
  ![0, v43.toNat, 0]
def k0_off3 (i : grid0.Coords) : Fin 3 → Nat :=
  let c1_20 : Index := 1#32
  let c46_i32 : BitVec 32 := 46#32
  let c0_i32 : BitVec 32 := 0#32
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let v2 : BitVec 32 := Scalar.maxsi c0_i32 v1
  let v3 : BitVec 32 := Scalar.minsi c46_i32 v2
  let c8_i32 : BitVec 32 := 8#32
  let v4 : BitVec 32 := Scalar.muli v3 c8_i32
  let v48 : Index := Scalar.indexCast v4
  let c0_21 : Index := 0#32
  ![1, v48.toNat, 0]
def k0_off4 (i : grid0.Coords) : Fin 3 → Nat :=
  let c2_22 : Index := 2#32
  let c46_i32 : BitVec 32 := 46#32
  let c0_i32 : BitVec 32 := 0#32
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let v2 : BitVec 32 := Scalar.maxsi c0_i32 v1
  let v3 : BitVec 32 := Scalar.minsi c46_i32 v2
  let c8_i32 : BitVec 32 := 8#32
  let v4 : BitVec 32 := Scalar.muli v3 c8_i32
  let v53 : Index := Scalar.indexCast v4
  let c0_23 : Index := 0#32
  ![2, v53.toNat, 0]
def k0_off5 (i : grid0.Coords) : Fin 4 → Nat :=
  let arg0 : BitVec 32 := BitVec.ofNat 32 (i 0).val
  let c0_i32_0 : BitVec 32 := 0#32
  let v5 : BitVec 1 := Scalar.cmpi .sgt arg0 c0_i32_0
  let v6 : BitVec 32 := Scalar.extui v5
  let c2_i32 : BitVec 32 := 2#32
  let v7 : BitVec 1 := Scalar.cmpi .sgt arg0 c2_i32
  let v8 : BitVec 32 := Scalar.extui v7
  let v9 : BitVec 32 := Scalar.addi v6 v8
  let v767 : Index := Scalar.indexCast v9
  let c0_661 : Index := 0#32
  let c0_662 : Index := 0#32
  let c0_663 : Index := 0#32
  ![v767.toNat, 0, 0, 0]
def k0_off6 (i : grid0.Coords) : Fin 4 → Nat :=
  let arg0 : BitVec 32 := BitVec.ofNat 32 (i 0).val
  let c0_i32_0 : BitVec 32 := 0#32
  let v5 : BitVec 1 := Scalar.cmpi .sgt arg0 c0_i32_0
  let v6 : BitVec 32 := Scalar.extui v5
  let c2_i32 : BitVec 32 := 2#32
  let v7 : BitVec 1 := Scalar.cmpi .sgt arg0 c2_i32
  let v8 : BitVec 32 := Scalar.extui v7
  let v9 : BitVec 32 := Scalar.addi v6 v8
  let v821 : Index := Scalar.indexCast v9
  let c1_715 : Index := 1#32
  let c0_716 : Index := 0#32
  let c0_717 : Index := 0#32
  ![v821.toNat, 1, 0, 0]
def k0_off7 (i : grid0.Coords) : Fin 4 → Nat :=
  let arg0 : BitVec 32 := BitVec.ofNat 32 (i 0).val
  let c0_i32_0 : BitVec 32 := 0#32
  let v5 : BitVec 1 := Scalar.cmpi .sgt arg0 c0_i32_0
  let v6 : BitVec 32 := Scalar.extui v5
  let c2_i32 : BitVec 32 := 2#32
  let v7 : BitVec 1 := Scalar.cmpi .sgt arg0 c2_i32
  let v8 : BitVec 32 := Scalar.extui v7
  let v9 : BitVec 32 := Scalar.addi v6 v8
  let v879 : Index := Scalar.indexCast v9
  let c2_777 : Index := 2#32
  let c0_778 : Index := 0#32
  let c0_779 : Index := 0#32
  ![v879.toNat, 2, 0, 0]
def k0_off8 (i : grid0.Coords) : Fin 4 → Nat :=
  let arg0 : BitVec 32 := BitVec.ofNat 32 (i 0).val
  let c0_i32_0 : BitVec 32 := 0#32
  let v5 : BitVec 1 := Scalar.cmpi .sgt arg0 c0_i32_0
  let v6 : BitVec 32 := Scalar.extui v5
  let c2_i32 : BitVec 32 := 2#32
  let v7 : BitVec 1 := Scalar.cmpi .sgt arg0 c2_i32
  let v8 : BitVec 32 := Scalar.extui v7
  let v9 : BitVec 32 := Scalar.addi v6 v8
  let v937 : Index := Scalar.indexCast v9
  let c3_839 : Index := 3#32
  let c0_840 : Index := 0#32
  let c0_841 : Index := 0#32
  ![v937.toNat, 3, 0, 0]
def k0_off9 (i : grid0.Coords) : Fin 4 → Nat :=
  let arg0 : BitVec 32 := BitVec.ofNat 32 (i 0).val
  let c0_i32_0 : BitVec 32 := 0#32
  let v5 : BitVec 1 := Scalar.cmpi .sgt arg0 c0_i32_0
  let v6 : BitVec 32 := Scalar.extui v5
  let c2_i32 : BitVec 32 := 2#32
  let v7 : BitVec 1 := Scalar.cmpi .sgt arg0 c2_i32
  let v8 : BitVec 32 := Scalar.extui v7
  let v9 : BitVec 32 := Scalar.addi v6 v8
  let v995 : Index := Scalar.indexCast v9
  let c4_901 : Index := 4#32
  let c0_902 : Index := 0#32
  let c0_903 : Index := 0#32
  ![v995.toNat, 4, 0, 0]
def k0_off10 (i : grid0.Coords) : Fin 4 → Nat :=
  let arg0 : BitVec 32 := BitVec.ofNat 32 (i 0).val
  let c0_i32_0 : BitVec 32 := 0#32
  let v5 : BitVec 1 := Scalar.cmpi .sgt arg0 c0_i32_0
  let v6 : BitVec 32 := Scalar.extui v5
  let c2_i32 : BitVec 32 := 2#32
  let v7 : BitVec 1 := Scalar.cmpi .sgt arg0 c2_i32
  let v8 : BitVec 32 := Scalar.extui v7
  let v9 : BitVec 32 := Scalar.addi v6 v8
  let v1053 : Index := Scalar.indexCast v9
  let c5_963 : Index := 5#32
  let c0_964 : Index := 0#32
  let c0_965 : Index := 0#32
  ![v1053.toNat, 5, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S3x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x6x128x864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x6x266x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "four_root_10" => some ((Real.sqrt 160 : ℝ) : EReal)
  | "four_root_13" => some ((Real.sqrt 208 : ℝ) : EReal)
  | "four_root_17" => some ((Real.sqrt 272 : ℝ) : EReal)
  | "four_root_18" => some ((Real.sqrt 288 : ℝ) : EReal)
  | "four_root_2" => some ((Real.sqrt 32 : ℝ) : EReal)
  | "four_root_20" => some ((Real.sqrt 320 : ℝ) : EReal)
  | "four_root_5" => some ((Real.sqrt 80 : ℝ) : EReal)
  | "four_root_8" => some ((Real.sqrt 128 : ℝ) : EReal)
  | "root_10" => some ((Real.sqrt 10 : ℝ) : EReal)
  | "root_13" => some ((Real.sqrt 13 : ℝ) : EReal)
  | "root_17" => some ((Real.sqrt 17 : ℝ) : EReal)
  | "root_18" => some ((Real.sqrt 18 : ℝ) : EReal)
  | "root_2" => some ((Real.sqrt 2 : ℝ) : EReal)
  | "root_20" => some ((Real.sqrt 20 : ℝ) : EReal)
  | "root_5" => some ((Real.sqrt 5 : ℝ) : EReal)
  | "root_8" => some ((Real.sqrt 8 : ℝ) : EReal)
  | _ => none
-- ==== ReferenceIdeal.lean ====
abbrev S1x3x512x512 : Shape := ⟨4, ![1, 3, 512, 512]⟩
abbrev S1x1x512x512 : Shape := ⟨4, ![1, 1, 512, 512]⟩
abbrev S3x512x512 : Shape := ⟨3, ![3, 512, 512]⟩
abbrev S512x512 : Shape := ⟨2, ![512, 512]⟩
abbrev S_ : Shape := ⟨0, ![]⟩
abbrev S1x512x512 : Shape := ⟨3, ![1, 512, 512]⟩
abbrev S3x522x522 : Shape := ⟨3, ![3, 522, 522]⟩
abbrev S522x522 : Shape := ⟨2, ![522, 522]⟩

abbrev nBuf : Space → Nat
  | .hbm => 112
  | .vmem => 0
  | .smem => 0
  | _ => 0

abbrev bufTy : (tb : Table) → Fin (tcTables nBuf tb) → BufTy
  | .hbm, ⟨0, _⟩ => ⟨S1x3x512x512, .f32⟩
  | .hbm, ⟨1, _⟩ => ⟨S1x1x512x512, .f32⟩
  | .hbm, ⟨2, _⟩ => ⟨S3x512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S_, .f32⟩
  | .hbm, ⟨11, _⟩ => ⟨S3x512x512, .f32⟩
  | .hbm, ⟨12, _⟩ => ⟨S_, .f32⟩
  | .hbm, ⟨13, _⟩ => ⟨S512x512, .f32⟩
  | .hbm, ⟨14, _⟩ => ⟨S_, .i32⟩
  | .hbm, ⟨15, _⟩ => ⟨S_, .i32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S3x512x512, .f32⟩
  | .hbm, ⟨20, _⟩ => ⟨S_, .i32⟩
  | .hbm, ⟨21, _⟩ => ⟨S_, .i32⟩
  | .hbm, ⟨22, _⟩ => ⟨S3x512x512, .f32⟩
  | .hbm, ⟨23, _⟩ => ⟨S512x512, .f32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S_, .f32⟩
  | .hbm, ⟨41, _⟩ => ⟨S512x512, .f32⟩
  | .hbm, ⟨42, _⟩ => ⟨S512x512, .f32⟩
  | .hbm, ⟨43, _⟩ => ⟨S_, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S_, .f32⟩
  | .hbm, ⟨48, _⟩ => ⟨S512x512, .f32⟩
  | .hbm, ⟨49, _⟩ => ⟨S512x512, .f32⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S_, .f32⟩
  | .hbm, ⟨54, _⟩ => ⟨S512x512, .f32⟩
  | .hbm, ⟨55, _⟩ => ⟨S512x512, .f32⟩
  | .hbm, ⟨56, _⟩ => ⟨S512x512, .f32⟩
  | .hbm, ⟨57, _⟩ => ⟨S512x512, .f32⟩
  | .hbm, ⟨58, _⟩ => ⟨S512x512, .i1⟩
  | .hbm, ⟨59, _⟩ => ⟨S512x512, .f32⟩
  | .hbm, ⟨60, _⟩ => ⟨S512x512, .f32⟩
  | .hbm, ⟨61, _⟩ => ⟨S1x512x512, .f32⟩
  | .hbm, ⟨62, _⟩ => ⟨S3x512x512, .f32⟩
  | .hbm, ⟨63, _⟩ => ⟨S3x512x512, .f32⟩
  | .hbm, ⟨64, _⟩ => ⟨S_, .i32⟩
  | .hbm, ⟨65, _⟩ => ⟨S_, .f32⟩
  | .hbm, ⟨66, _⟩ => ⟨S3x522x522, .f32⟩
  | .hbm, ⟨67, _⟩ => ⟨S_, .i32⟩
  | .hbm, ⟨68, _⟩ => ⟨S_, .f32⟩
  | .hbm, ⟨69, _⟩ => ⟨S522x522, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i1⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S3x512x512, .f32⟩
  | .hbm, ⟨88, _⟩ => ⟨S3x512x512, .f32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i1⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i1⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S512x512, .f32⟩
  | .hbm, ⟨106, _⟩ => ⟨S512x512, .f32⟩
  | .hbm, ⟨107, _⟩ => ⟨S_, .i32⟩
  | .hbm, ⟨108, _⟩ => ⟨S_, .i32⟩
  | .hbm, ⟨109, _⟩ => ⟨S1x512x512, .f32⟩
  | .hbm, ⟨110, _⟩ => ⟨S3x512x512, .f32⟩
  | .hbm, ⟨111, _⟩ => ⟨S3x512x512, .f32⟩
  | _, _ => ⟨S1x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_c : Ref sig .tc := ⟨.hbm, 14, rfl⟩
abbrev main_c_2 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev main_v9_7 : Ref sig .tc := ⟨.hbm, 23, rfl⟩
abbrev main_while0c_c_10 : Ref sig .tc := ⟨.hbm, 24, rfl⟩
abbrev main_while0c_v13 : Ref sig .tc := ⟨.hbm, 25, rfl⟩
abbrev main_while0b_c_10 : Ref sig .tc := ⟨.hbm, 26, rfl⟩
abbrev main_while0b_v13 : Ref sig .tc := ⟨.hbm, 27, rfl⟩
abbrev main_while0b_c_11 : Ref sig .tc := ⟨.hbm, 28, rfl⟩
abbrev main_while0b_v14 : Ref sig .tc := ⟨.hbm, 29, rfl⟩
abbrev main_while0b_c_12 : Ref sig .tc := ⟨.hbm, 30, rfl⟩
abbrev main_while0b_v15 : Ref sig .tc := ⟨.hbm, 31, rfl⟩
abbrev main_while0b_c_13 : Ref sig .tc := ⟨.hbm, 32, rfl⟩
abbrev main_while0b_v16 : Ref sig .tc := ⟨.hbm, 33, rfl⟩
abbrev main_while0b_c_14 : Ref sig .tc := ⟨.hbm, 34, rfl⟩
abbrev main_while0b_v17 : Ref sig .tc := ⟨.hbm, 35, rfl⟩
abbrev main_while0b_v18 : Ref sig .tc := ⟨.hbm, 36, rfl⟩
abbrev main_while0b_v19 : Ref sig .tc := ⟨.hbm, 37, rfl⟩
abbrev main_while0b_v20 : Ref sig .tc := ⟨.hbm, 38, rfl⟩
abbrev main_while0b_v21 : Ref sig .tc := ⟨.hbm, 39, rfl⟩
abbrev main_while0b_v22 : Ref sig .tc := ⟨.hbm, 40, rfl⟩
abbrev main_while0b_v23 : Ref sig .tc := ⟨.hbm, 41, rfl⟩
abbrev main_while0b_v24 : Ref sig .tc := ⟨.hbm, 42, rfl⟩
abbrev main_while0b_cst_15 : Ref sig .tc := ⟨.hbm, 43, rfl⟩
abbrev main_while0b_v25 : Ref sig .tc := ⟨.hbm, 44, rfl⟩
abbrev main_while0b_v26 : Ref sig .tc := ⟨.hbm, 45, rfl⟩
abbrev main_while0b_v27 : Ref sig .tc := ⟨.hbm, 46, rfl⟩
abbrev main_while0b_cst_16 : Ref sig .tc := ⟨.hbm, 47, rfl⟩
abbrev main_while0b_v28 : Ref sig .tc := ⟨.hbm, 48, rfl⟩
abbrev main_while0b_v29 : Ref sig .tc := ⟨.hbm, 49, rfl⟩
abbrev main_while0b_cst_17 : Ref sig .tc := ⟨.hbm, 50, rfl⟩
abbrev main_while0b_v30 : Ref sig .tc := ⟨.hbm, 51, rfl⟩
abbrev main_while0b_v31 : Ref sig .tc := ⟨.hbm, 52, rfl⟩
abbrev main_while0b_cst_18 : Ref sig .tc := ⟨.hbm, 53, rfl⟩
abbrev main_while0b_v32 : Ref sig .tc := ⟨.hbm, 54, rfl⟩
abbrev main_while0b_v33 : Ref sig .tc := ⟨.hbm, 55, rfl⟩
abbrev main_while0b_v34 : Ref sig .tc := ⟨.hbm, 56, rfl⟩
abbrev main_while0b_v35 : Ref sig .tc := ⟨.hbm, 57, rfl⟩
abbrev main_while0b_v36 : Ref sig .tc := ⟨.hbm, 58, rfl⟩
abbrev main_while0b_v37 : Ref sig .tc := ⟨.hbm, 59, rfl⟩
abbrev main_while0b_v38 : Ref sig .tc := ⟨.hbm, 60, rfl⟩
abbrev main_while0b_v39 : Ref sig .tc := ⟨.hbm, 61, rfl⟩
abbrev main_while0b_v40 : Ref sig .tc := ⟨.hbm, 62, rfl⟩
abbrev main_while0b_v41 : Ref sig .tc := ⟨.hbm, 63, rfl⟩
abbrev main_while0b_c_19 : Ref sig .tc := ⟨.hbm, 64, rfl⟩
abbrev main_while0b_call0_v0 : Ref sig .tc := ⟨.hbm, 65, rfl⟩
abbrev main_while0b_v42 : Ref sig .tc := ⟨.hbm, 66, rfl⟩
abbrev main_while0b_c_20 : Ref sig .tc := ⟨.hbm, 67, rfl⟩
abbrev main_while0b_call1_v0 : Ref sig .tc := ⟨.hbm, 68, rfl⟩
abbrev main_while0b_v43 : Ref sig .tc := ⟨.hbm, 69, rfl⟩
abbrev main_while0b_c_21 : Ref sig .tc := ⟨.hbm, 70, rfl⟩
abbrev main_while0b_v44 : Ref sig .tc := ⟨.hbm, 71, rfl⟩
abbrev main_while0b_c_22 : Ref sig .tc := ⟨.hbm, 72, rfl⟩
abbrev main_while0b_v45 : Ref sig .tc := ⟨.hbm, 73, rfl⟩
abbrev main_while0b_c_23 : Ref sig .tc := ⟨.hbm, 74, rfl⟩
abbrev main_while0b_v46 : Ref sig .tc := ⟨.hbm, 75, rfl⟩
abbrev main_while0b_v47 : Ref sig .tc := ⟨.hbm, 76, rfl⟩
abbrev main_while0b_c_24 : Ref sig .tc := ⟨.hbm, 77, rfl⟩
abbrev main_while0b_v48 : Ref sig .tc := ⟨.hbm, 78, rfl⟩
abbrev main_while0b_v49 : Ref sig .tc := ⟨.hbm, 79, rfl⟩
abbrev main_while0b_c_25 : Ref sig .tc := ⟨.hbm, 80, rfl⟩
abbrev main_while0b_v50 : Ref sig .tc := ⟨.hbm, 81, rfl⟩
abbrev main_while0b_v51 : Ref sig .tc := ⟨.hbm, 82, rfl⟩
abbrev main_while0b_c_26 : Ref sig .tc := ⟨.hbm, 83, rfl⟩
abbrev main_while0b_v52 : Ref sig .tc := ⟨.hbm, 84, rfl⟩
abbrev main_while0b_v53 : Ref sig .tc := ⟨.hbm, 85, rfl⟩
abbrev main_while0b_c_27 : Ref sig .tc := ⟨.hbm, 86, rfl⟩
abbrev main_while0b_v54 : Ref sig .tc := ⟨.hbm, 87, rfl⟩
abbrev main_while0b_v55 : Ref sig .tc := ⟨.hbm, 88, rfl⟩
abbrev main_while0b_c_28 : Ref sig .tc := ⟨.hbm, 89, rfl⟩
abbrev main_while0b_v56 : Ref sig .tc := ⟨.hbm, 90, rfl⟩
abbrev main_while0b_c_29 : Ref sig .tc := ⟨.hbm, 91, rfl⟩
abbrev main_while0b_v57 : Ref sig .tc := ⟨.hbm, 92, rfl⟩
abbrev main_while0b_c_30 : Ref sig .tc := ⟨.hbm, 93, rfl⟩
abbrev main_while0b_v58 : Ref sig .tc := ⟨.hbm, 94, rfl⟩
abbrev main_while0b_v59 : Ref sig .tc := ⟨.hbm, 95, rfl⟩
abbrev main_while0b_c_31 : Ref sig .tc := ⟨.hbm, 96, rfl⟩
abbrev main_while0b_v60 : Ref sig .tc := ⟨.hbm, 97, rfl⟩
abbrev main_while0b_v61 : Ref sig .tc := ⟨.hbm, 98, rfl⟩
abbrev main_while0b_c_32 : Ref sig .tc := ⟨.hbm, 99, rfl⟩
abbrev main_while0b_v62 : Ref sig .tc := ⟨.hbm, 100, rfl⟩
abbrev main_while0b_v63 : Ref sig .tc := ⟨.hbm, 101, rfl⟩
abbrev main_while0b_c_33 : Ref sig .tc := ⟨.hbm, 102, rfl⟩
abbrev main_while0b_v64 : Ref sig .tc := ⟨.hbm, 103, rfl⟩
abbrev main_while0b_v65 : Ref sig .tc := ⟨.hbm, 104, rfl⟩
abbrev main_while0b_v66 : Ref sig .tc := ⟨.hbm, 105, rfl⟩
abbrev main_while0b_v67 : Ref sig .tc := ⟨.hbm, 106, rfl⟩
abbrev main_while0b_c_34 : Ref sig .tc := ⟨.hbm, 107, rfl⟩
abbrev main_while0b_v68 : Ref sig .tc := ⟨.hbm, 108, rfl⟩
abbrev main_v10 : Ref sig .tc := ⟨.hbm, 109, rfl⟩
abbrev main_v11 : Ref sig .tc := ⟨.hbm, 110, rfl⟩
abbrev main_v12 : Ref sig .tc := ⟨.hbm, 111, rfl⟩

abbrev nD : Nat := 1
abbrev τ : Topo := Topo.v7x

variable {F : FTy → Type} [FloatOps F]

abbrev main_while0_count : Scf.Loop 32 := ⟨0#32, 121#32, 1#32⟩
-- ==== Proof.Consts.lean ====
/- The numbers the two programs write down, at `Ideal`: the few literals as real numbers, and each NAMED root as the
   root it stands for. `IsRoot n four one` collects what a distance class needs of its two constants. -/
module

public import proofs.«01_k».proof.KernelIdeal
public import Idealize.ShloMosaic.Lib.Pointwise
public import Idealize.ShloMosaic.PureOps.IdealRules

@[expose] public section

noncomputable section

namespace Cert.Blur

open Idealize.ShloMosaic Cert.KernelIdeal

/-- The small number the programs add to the squared radius: the f32 nearest to `1e-5`, exactly. -/
def eps : ℝ := 10995116 / 2 ^ 40

theorem eps_pos : 0 < eps := by unfold eps; norm_num

/-- The f32 pattern of `1e-5` is `eps`. -/
theorem ofBits_eps : Ideal.ofBits .f32 0x3727C5AC#32 = ((eps : ℝ) : EReal) := by
  unfold eps; simp [Ideal.ofBits, Ideal.ieee, -EReal.coe_mul]; norm_num

/-- The f32 pattern of one half. -/
theorem ofBits_half : Ideal.ofBits .f32 0x3F000000#32 = ((1 / 2 : ℝ) : EReal) := by
  simp [Ideal.ofBits, Ideal.ieee, -EReal.coe_mul]; norm_num

/-- The f32 pattern of two. -/
theorem ofBits_two : Ideal.ofBits .f32 0x40000000#32 = ((2 : ℝ) : EReal) := by
  simp [Ideal.ofBits, Ideal.ieee, -EReal.coe_mul]; norm_num

/-- The f32 pattern of three. -/
theorem ofBits_three : Ideal.ofBits .f32 0x40400000#32 = ((3 : ℝ) : EReal) := by
  simp [Ideal.ofBits, Ideal.ieee, -EReal.coe_mul]; norm_num

/-- The f32 pattern of four. -/
theorem ofBits_four : Ideal.ofBits .f32 0x40800000#32 = ((4 : ℝ) : EReal) := by
  simp [Ideal.ofBits, Ideal.ieee, -EReal.coe_mul]; norm_num

/-- The f32 pattern of five. -/
theorem ofBits_five : Ideal.ofBits .f32 0x40A00000#32 = ((5 : ℝ) : EReal) := by
  simp [Ideal.ofBits, Ideal.ieee, -EReal.coe_mul]; norm_num

/-- The f32 pattern of eight. -/
theorem ofBits_eight : Ideal.ofBits .f32 0x41000000#32 = ((8 : ℝ) : EReal) := by
  simp [Ideal.ofBits, Ideal.ieee, -EReal.coe_mul]; norm_num

/-- The f32 pattern of twelve. -/
theorem ofBits_twelve : Ideal.ofBits .f32 0x41400000#32 = ((12 : ℝ) : EReal) := by
  simp [Ideal.ofBits, Ideal.ieee, -EReal.coe_mul]; norm_num

/-- The f32 pattern of sixteen. -/
theorem ofBits_sixteen : Ideal.ofBits .f32 0x41800000#32 = ((16 : ℝ) : EReal) := by
  simp [Ideal.ofBits, Ideal.ieee, -EReal.coe_mul]; norm_num

/-- The f32 pattern of twenty. -/
theorem ofBits_twenty : Ideal.ofBits .f32 0x41A00000#32 = ((20 : ℝ) : EReal) := by
  simp [Ideal.ofBits, Ideal.ieee, -EReal.coe_mul]; norm_num

/-- A distance class's two constants: `four` is four times the distance `√n`, `one` the distance itself. -/
structure IsRoot (n : ℕ) (four one : Ideal .f32) : Prop where
  four_eq : four = ((4 * Real.sqrt n : ℝ) : EReal)
  one_eq : one = ((Real.sqrt n : ℝ) : EReal)

/-- A class whose distance is the whole number `k`: both constants are literals. -/
theorem isRoot_square (k : ℕ) {four one : Ideal .f32} (h4 : four = ((4 * k : ℝ) : EReal)) (h1 : one = ((k : ℝ) : EReal)) :
    IsRoot (k * k) four one := by
  have e : Real.sqrt ((k * k : ℕ) : ℝ) = k := by push_cast; exact Real.sqrt_mul_self (Nat.cast_nonneg k)
  exact ⟨by rw [h4, e], by rw [h1, e]⟩

/-- A class whose constants are named: the first is `√(16 n)`, the second `√n`. -/
theorem isRoot_named (n : ℕ) {four one : Ideal .f32} (h4 : four = ((Real.sqrt (16 * n) : ℝ) : EReal))
    (h1 : one = ((Real.sqrt n : ℝ) : EReal)) : IsRoot n four one := by
  refine ⟨?_, h1⟩
  rw [h4, Real.sqrt_mul (by norm_num), show (16 : ℝ) = 4 * 4 by norm_num, Real.sqrt_mul_self (by norm_num)]

/-- Distance 0 (the second constant is not read: a pixel's own weight is never masked). -/
theorem root0 : IsRoot 0 (Scalar.ofBits (F := Ideal) .f32 0x00000000#32) (Scalar.ofBits (F := Ideal) .f32 0x00000000#32) := by
  have e : (Scalar.ofBits (F := Ideal) .f32 0x00000000#32) = 0 := Ideal.ofBits_zero_f32
  exact isRoot_square 0 (by rw [e]; simp) (by rw [e]; simp)

/-- Distance 1. -/
theorem root1 : IsRoot 1 (Scalar.ofBits (F := Ideal) .f32 0x40800000#32) (Scalar.ofBits (F := Ideal) .f32 0x3F800000#32) :=
  isRoot_square 1 (ofBits_four.trans (by norm_num)) (Ideal.ofBits_one_f32.trans (by norm_num))

/-- Distance 2. -/
theorem root4 : IsRoot 4 (Scalar.ofBits (F := Ideal) .f32 0x41000000#32) (Scalar.ofBits (F := Ideal) .f32 0x40000000#32) :=
  isRoot_square 2 (ofBits_eight.trans (by norm_num)) (ofBits_two.trans (by norm_num))

/-- Distance 3. -/
theorem root9 : IsRoot 9 (Scalar.ofBits (F := Ideal) .f32 0x41400000#32) (Scalar.ofBits (F := Ideal) .f32 0x40400000#32) :=
  isRoot_square 3 (ofBits_twelve.trans (by norm_num)) (ofBits_three.trans (by norm_num))

/-- Distance 4. -/
theorem root16 : IsRoot 16 (Scalar.ofBits (F := Ideal) .f32 0x41800000#32) (Scalar.ofBits (F := Ideal) .f32 0x40800000#32) :=
  isRoot_square 4 (ofBits_sixteen.trans (by norm_num)) (ofBits_four.trans (by norm_num))

/-- Distance 5. -/
theorem root25 : IsRoot 25 (Scalar.ofBits (F := Ideal) .f32 0x41A00000#32) (Scalar.ofBits (F := Ideal) .f32 0x40A00000#32) :=
  isRoot_square 5 (ofBits_twenty.trans (by norm_num)) (ofBits_five.trans (by norm_num))

/-- Distance `√2`. -/
theorem root2 : IsRoot 2 (Named.named (F := Ideal) κ "four_root_2" (φ := .f32) 0x40B504F3#32)
    (Named.named (F := Ideal) κ "root_2" (φ := .f32) 0x3FB504F3#32) :=
  isRoot_named 2 ((IdealRules.named_const.ideal_named_scalar _ _ _ _ rfl).trans (by norm_num))
    ((IdealRules.named_const.ideal_named_scalar _ _ _ _ rfl).trans (by norm_num))

/-- Distance `√5`. -/
theorem root5 : IsRoot 5 (Named.named (F := Ideal) κ "four_root_5" (φ := .f32) 0x410F1BBD#32)
    (Named.named (F := Ideal) κ "root_5" (φ := .f32) 0x400F1BBD#32) :=
  isRoot_named 5 ((IdealRules.named_const.ideal_named_scalar _ _ _ _ rfl).trans (by norm_num))
    ((IdealRules.named_const.ideal_named_scalar _ _ _ _ rfl).trans (by norm_num))

/-- Distance `√8`. -/
theorem root8 : IsRoot 8 (Named.named (F := Ideal) κ "four_root_8" (φ := .f32) 0x413504F3#32)
    (Named.named (F := Ideal) κ "root_8" (φ := .f32) 0x403504F3#32) :=
  isRoot_named 8 ((IdealRules.named_const.ideal_named_scalar _ _ _ _ rfl).trans (by norm_num))
    ((IdealRules.named_const.ideal_named_scalar _ _ _ _ rfl).trans (by norm_num))

/-- Distance `√10`. -/
theorem root10 : IsRoot 10 (Named.named (F := Ideal) κ "four_root_10" (φ := .f32) 0x414A62C2#32)
    (Named.named (F := Ideal) κ "root_10" (φ := .f32) 0x404A62C2#32) :=
  isRoot_named 10 ((IdealRules.named_const.ideal_named_scalar _ _ _ _ rfl).trans (by norm_num))
    ((IdealRules.named_const.ideal_named_scalar _ _ _ _ rfl).trans (by norm_num))

/-- Distance `√13`. -/
theorem root13 : IsRoot 13 (Named.named (F := Ideal) κ "four_root_13" (φ := .f32) 0x4166C15A#32)
    (Named.named (F := Ideal) κ "root_13" (φ := .f32) 0x4066C15A#32) :=
  isRoot_named 13 ((IdealRules.named_const.ideal_named_scalar _ _ _ _ rfl).trans (by norm_num))
    ((IdealRules.named_const.ideal_named_scalar _ _ _ _ rfl).trans (by norm_num))

/-- Distance `√17`. -/
theorem root17 : IsRoot 17 (Named.named (F := Ideal) κ "four_root_17" (φ := .f32) 0x4183F07B#32)
    (Named.named (F := Ideal) κ "root_17" (φ := .f32) 0x4083F07B#32) :=
  isRoot_named 17 ((IdealRules.named_const.ideal_named_scalar _ _ _ _ rfl).trans (by norm_num))
    ((IdealRules.named_const.ideal_named_scalar _ _ _ _ rfl).trans (by norm_num))

/-- Distance `√18`. -/
theorem root18 : IsRoot 18 (Named.named (F := Ideal) κ "four_root_18" (φ := .f32) 0x4187C3B6#32)
    (Named.named (F := Ideal) κ "root_18" (φ := .f32) 0x4087C3B6#32) :=
  isRoot_named 18 ((IdealRules.named_const.ideal_named_scalar _ _ _ _ rfl).trans (by norm_num))
    ((IdealRules.named_const.ideal_named_scalar _ _ _ _ rfl).trans (by norm_num))

/-- Distance `√20`. -/
theorem root20 : IsRoot 20 (Named.named (F := Ideal) κ "four_root_20" (φ := .f32) 0x418F1BBD#32)
    (Named.named (F := Ideal) κ "root_20" (φ := .f32) 0x408F1BBD#32) :=
  isRoot_named 20 ((IdealRules.named_const.ideal_named_scalar _ _ _ _ rfl).trans (by norm_num))
    ((IdealRules.named_const.ideal_named_scalar _ _ _ _ rfl).trans (by norm_num))

end Cert.Blur

end
-- ==== Proof.Spec.lean ====
/- WHAT IS COMPUTED, in plain arithmetic over the extended reals, by no program: the weight a pixel gives to a pixel at
   squared distance `n`, the four planes (weight, and weight times each colour), and the spread of a plane family over a
   pixel's neighbourhood, written the way the kernel adds it up (`spread`: columns outside, rows inside, both signs of an
   offset together). -/
module

public import proofs.«01_k».proof.Proof.Consts

@[expose] public section

noncomputable section

namespace Cert.Blur

open Idealize.ShloMosaic

/-- The picture's shape: three colours of 512 by 512. -/
abbrev Pic : Shape := ⟨3, ![3, 512, 512]⟩
/-- One plane's shape. -/
abbrev Pln : Shape := ⟨2, ![512, 512]⟩

/-- The radius at a pixel: the magnitude of its defocus. -/
def mag (δ : EReal) : EReal := max δ (-δ)

/-- Half the reciprocal of the squared radius (plus `eps`). -/
def halfInv (δ : EReal) : EReal := Ideal.div ((1 / 2 : ℝ) : EReal) (mag δ * mag δ + ((eps : ℝ) : EReal))

/-- The farthest distance a pixel reaches: its radius rounded down, plus one. -/
def reach (δ : EReal) : EReal := Ideal.liftRound Int.floor (mag δ) + 1

/-- The weight a pixel of defocus `δ` gives at squared distance `n`, in the kernel's association; distances 0 and 1 are
    never masked. -/
def weight (δ : EReal) (n : ℕ) : EReal :=
  if n ≤ 1 ∨ ((Real.sqrt n : ℝ) : EReal) ≤ reach δ then
    halfInv δ + halfInv δ * Ideal.tanh (((4 : ℝ) : EReal) * mag δ - ((4 * Real.sqrt n : ℝ) : EReal))
  else 0

/-- The coordinates of a plane as an index. -/
def at2 (r x : ℕ) : Pln.Idx := ix2 (Fin.ofNat 512 r) (Fin.ofNat 512 x)

/-- The coordinates of a picture as an index. -/
def at3 (c r x : ℕ) : Pic.Idx := ix3 (Fin.ofNat 3 c) (Fin.ofNat 512 r) (Fin.ofNat 512 x)

/-- Plane `p` of squared distance `n` at row `r`, column `x`: the weight (`p = 0`), or the weight times colour `p - 1`. -/
def plane (img : Pic.Idx → EReal) (dfc : Pln.Idx → EReal) (p n r x : ℕ) : EReal :=
  match p with
  | 0 => weight (dfc (at2 r x)) n
  | c + 1 => weight (dfc (at2 r x)) n * img (at3 c r x)

/-- A function of the picture's coordinates, read as zero outside the picture. -/
def guard (f : ℕ → ℕ → EReal) (r x : ℤ) : EReal :=
  if (0 ≤ r ∧ r < 512) ∧ (0 ≤ x ∧ x < 512) then f r.toNat x.toNat else 0

/-- The two positions at distance `a` from `n`, added (the one position when `a = 0`). -/
def mirror (a : ℕ) (g : ℤ → EReal) (n : ℤ) : EReal := if a = 0 then g n else g (n - a) + g (n + a)

/-- How many row offsets `0 … ` go with column offset `b`: those with `a² + b² ≤ 25`. -/
def rows (b : ℕ) : ℕ := match b with | 0 => 6 | 1 => 5 | 2 => 5 | 3 => 5 | 4 => 4 | _ => 1

/-- The row part of the spread at column offset `b`: the two rows at each offset `a`, of the plane of squared distance
    `a² + b²`. -/
def rowPart (P : ℕ → ℤ → ℤ → EReal) (b : ℕ) (r x : ℤ) : EReal :=
  ∑ a ∈ Finset.range (rows b), mirror a (fun y => P (a * a + b * b) y x) r

/-- The spread of a plane family at a pixel: over the column offsets, both columns' row parts. -/
def spread (P : ℕ → ℤ → ℤ → EReal) (r x : ℤ) : EReal :=
  ∑ b ∈ Finset.range 6, mirror b (fun z => rowPart P b r z) x

/-- Plane `p` spread to row `r`, column `x`. -/
def total (img : Pic.Idx → EReal) (dfc : Pln.Idx → EReal) (p : ℕ) (r x : ℤ) : EReal :=
  spread (fun n => guard (plane img dfc p n)) r x

/-- The blurred picture: each colour's spread times the reciprocal of the weights' spread. -/
def blurred (img : Pic.Idx → EReal) (dfc : Pln.Idx → EReal) (j : Pic.Idx) : EReal :=
  total img dfc ((j 0).val + 1) (j 1).val (j 2).val * Ideal.div 1 (total img dfc 0 (j 1).val (j 2).val)

end Cert.Blur

end
-- ==== Proof.Slab.lean ====
/- THE SLAB one grid point works on: rows `slab t … slab t + 143` of the picture, and what the loads of it hold — the
   defocus, the three colours, and the three planes made of the radius (four times the radius, half the reciprocal of its
   square, the reach). -/
module

public import proofs.«01_k».proof.Proof.Gen.KernelIdeal.Frame
public import Idealize.ShloMosaic.Lib.Pipeline.ReadBack
public import proofs.«01_k».proof.Proof.Spec

@[expose] public section

noncomputable section

namespace Cert.Blur

open Idealize.ShloMosaic Idealize.ShloMosaic.TcCoe Cert.KernelIdeal Cert.KernelIdeal.Gen Cert.KernelIdeal.Gen.kernelRun0_A.sl

/-- The first row of grid point `t`'s slab. -/
def slab : Fin 4 → ℕ := ![0, 120, 248, 368]

/-- Which of the three banded matrices grid point `t` uses: its tile starts `8 * bank t` rows into the slab. -/
def bank : Fin 4 → ℕ := ![0, 1, 1, 2]

/-- A slab lies within the picture. -/
theorem slab_le (t : Fin 4) : slab t + 144 ≤ 512 := by fin_cases t <;> decide

/-- The tile's place in the slab. -/
theorem slab_add_bank (t : Fin 4) : slab t + 8 * bank t = 128 * t.val := by fin_cases t <;> decide

/-- A row five or fewer rows from the tile that lies in the picture lies in the slab. -/
theorem slab_reach (t : Fin 4) : (slab t = 0 ∨ bank t ≠ 0) ∧ (slab t = 368 ∨ bank t ≠ 2) ∧ bank t ≤ 2 := by
  fin_cases t <;> decide

/-- The tile a grid point computes. -/
def tile (i : grid0.Coords) : Fin 4 := i 0

theorem off1_eq (i : grid0.Coords) : k0_off1 i = ![slab (tile i), 0] := by
  unfold k0_off1 tile; generalize i 0 = t; revert t; decide

theorem off2_eq (i : grid0.Coords) : k0_off2 i = ![0, slab (tile i), 0] := by
  unfold k0_off2 tile; generalize i 0 = t; revert t; decide

theorem off3_eq (i : grid0.Coords) : k0_off3 i = ![1, slab (tile i), 0] := by
  unfold k0_off3 tile; generalize i 0 = t; revert t; decide

theorem off4_eq (i : grid0.Coords) : k0_off4 i = ![2, slab (tile i), 0] := by
  unfold k0_off4 tile; generalize i 0 = t; revert t; decide

variable (c : Dev nD) (i : grid0.Coords)
  (arg1 : Memref sig .tc .vmem S3x512x512 .f32) (harg1 : arg1.IsWhole)
  (arg2 : Memref sig .tc .vmem S512x512 .f32) (harg2 : arg2.IsWhole)
  (arg8 : Memref sig .tc .vmem S3x144x512 .f32)
  (x0 : Vec Ideal S3x512x512 .f32) (x1 : Vec Ideal S512x512 .f32)

/-- Slab row `r`, column `x`, as an index of the whole plane. -/
theorem at2_slab (o : ℕ) (h : o + 144 ≤ 512) (r : Fin 144) (x : Fin 512) :
    at2 (o + r.val) x.val = ix2 (⟨o + r.val, by omega⟩ : Fin 512) x := by
  unfold at2; congr 1
  · exact Fin.ext (Nat.mod_eq_of_lt (by omega))
  · exact Fin.ext (Nat.mod_eq_of_lt x.isLt)

/-- The same in colour `k` of the picture. -/
theorem at3_slab (k : Fin 3) (o : ℕ) (h : o + 144 ≤ 512) (r : Fin 144) (x : Fin 512) :
    at3 k.val (o + r.val) x.val = ix3 k (⟨o + r.val, by omega⟩ : Fin 512) x := by
  unfold at3; congr 1
  · exact Fin.ext (Nat.mod_eq_of_lt k.isLt)
  · exact Fin.ext (Nat.mod_eq_of_lt (by omega))
  · exact Fin.ext (Nat.mod_eq_of_lt x.isLt)

/-- The load of the defocus slab. -/
theorem defocus_read (inb : ∀ a, (k0_off1 i) a + S144x512.size a ≤ S512x512.size a) (r : Fin 144) (x : Fin 512) :
    View.readAt (Elt Ideal) arg2.view (Rect.unit (s := S512x512) (k0_off1 i) S144x512.size inb).toLoadRect (harg2.unread x1) (ix2 r x)
      = x1 (at2 (slab (tile i) + r.val) x.val) := by
  rw [View.readAt_eq_ld, Memref.IsWhole.read_unread, at2_slab _ (slab_le _)]
  have e := off1_eq i
  generalize k0_off1 i = o at inb e
  subst e
  have := slab_le (tile i)
  pointwise

/-- The load of colour `k`'s slab. -/
theorem colour_read (k : Fin 3) (o : Fin 3 → ℕ) (ho : o = ![k.val, slab (tile i), 0])
    (inb : ∀ a, o a + S1x144x512.size a ≤ S3x512x512.size a) (r : Fin 144) (x : Fin 512) :
    View.readAt (Elt Ideal) arg1.view (Rect.unit (s := S3x512x512) o S1x144x512.size inb).toLoadRect (harg1.unread x0) (ix3 0 r x)
      = x0 (at3 k.val (slab (tile i) + r.val) x.val) := by
  rw [View.readAt_eq_ld, Memref.IsWhole.read_unread, at3_slab k _ (slab_le _)]
  subst ho
  have := slab_le (tile i)
  pointwise

/-- The plane of half reciprocals, loaded back. -/
theorem inv_read (r : Fin 144) (x : Fin 512) :
    v33 c i arg2 harg2 arg8 x1 (ix3 0 r x) = halfInv (x1 (at2 (slab (tile i) + r.val) x.val)) := by
  unfold v33 HS2_3
  rw [View.readCov_skip _ _ _ _ _ (by decide), View.readCov_cons_toLoadRect]
  unfold k0_pay3 k0_pay1
  pointwise
  rw [defocus_read]
  simp only [ofBits_half, ofBits_eps]
  rfl

/-- The plane of four times the radius, loaded back. -/
theorem four_read (r : Fin 144) (x : Fin 512) :
    v35 c i arg2 harg2 arg8 x1 (ix3 0 r x) = ((4 : ℝ) : EReal) * mag (x1 (at2 (slab (tile i) + r.val) x.val)) := by
  unfold v35 HS2_3
  rw [View.readCov_skip _ _ _ _ _ (by decide), View.readCov_skip _ _ _ _ _ (by decide), View.readCov_cons_toLoadRect]
  unfold k0_pay2 k0_pay1
  pointwise
  rw [defocus_read]
  simp only [ofBits_four]
  rfl

/-- The plane of reaches, loaded back. -/
theorem reach_read (r : Fin 144) (x : Fin 512) :
    v128 c i arg2 harg2 arg8 x1 (ix3 0 r x) = reach (x1 (at2 (slab (tile i) + r.val) x.val)) := by
  unfold v128 HS2_3
  rw [View.readCov_cons_toLoadRect]
  unfold k0_pay4 k0_pay1
  pointwise
  rw [defocus_read]
  rfl

end Cert.Blur

end
-- ==== Proof.Planes.lean ====
/- WHAT THE PLANE SCRATCH HOLDS. The body stores, for every pair `(b, a)` of column and row offset with `a² + b² ≤ 25`, the
   four planes of squared distance `a² + b²` at rows `144 a …` of part `b`. `held` is that content as one function;
   `group` says the four stores of one pair are blocks of it, and `planes_pieces` that all stores are. -/
module

public import proofs.«01_k».proof.Proof.Slab

@[expose] public section

noncomputable section

namespace Cert.Blur

open Idealize.ShloMosaic Idealize.ShloMosaic.TcCoe Cert.KernelIdeal Cert.KernelIdeal.Gen Cert.KernelIdeal.Gen.kernelRun0_A.sl

/-- The plane scratch: part `b`, plane `p`, slab row `t` of row offset `a` at row `144 a + t`. -/
def held (img : Pic.Idx → EReal) (dfc : Pln.Idx → EReal) (o : ℕ) : S6x4x864x512.Idx → EReal := fun y =>
  plane img dfc (y 1).val ((y 2).val / 144 * ((y 2).val / 144) + (y 0).val * (y 0).val) (o + (y 2).val % 144) (y 3).val

/-- An unmasked class's weights: `h + h · tanh (f − four)`. -/
def wOpen (h f : FVec Ideal S1x144x512 .f32) (four : Ideal .f32) : FVec Ideal S144x512 .f32 :=
  addf (shapeCast S144x512 h shapeCasts_S1x144x512_S144x512)
    (mulf (shapeCast S144x512 h shapeCasts_S1x144x512_S144x512)
      (tanh (subf (shapeCast S144x512 f shapeCasts_S1x144x512_S144x512) (broadcast S144x512 four))))

/-- A masked class's weights: the same where the reach is at least the distance, zero elsewhere. -/
def wMask (h f k : FVec Ideal S1x144x512 .f32) (four one : Ideal .f32) : FVec Ideal S144x512 .f32 :=
  select (cmpf .oge (shapeCast S144x512 k shapeCasts_S1x144x512_S144x512) (broadcast S144x512 one)) (wOpen h f four)
    (broadcast S144x512 (Scalar.ofBits .f32 0x00000000#32))

/-- The weight plane as it is stored. -/
def stW (w : FVec Ideal S144x512 .f32) : FVec Ideal S1x1x144x512 .bf16 :=
  shapeCast S1x1x144x512 (truncf .bf16 w bitsLt_bf16_f32) shapeCasts_S144x512_S1x1x144x512

/-- A colour's plane as it is stored: the weights times the colour. -/
def stC (w : FVec Ideal S144x512 .f32) (q : FVec Ideal S1x144x512 .f32) : FVec Ideal S1x1x144x512 .bf16 :=
  shapeCast S1x1x144x512 (truncf .bf16 (mulf w (shapeCast S144x512 q shapeCasts_S1x144x512_S144x512)) bitsLt_bf16_f32)
    shapeCasts_S144x512_S1x1x144x512

section Planes

variable {img : Pic.Idx → EReal} {dfc : Pln.Idx → EReal} {o : ℕ}

/-- `h` and `f` are the field planes of the slab at `o`. -/
structure Fields (dfc : Pln.Idx → EReal) (o : ℕ) (h f k : FVec Ideal S1x144x512 .f32) : Prop where
  inv : ∀ r x, h (ix3 0 r x) = halfInv (dfc (at2 (o + r.val) x.val))
  four : ∀ r x, f (ix3 0 r x) = ((4 : ℝ) : EReal) * mag (dfc (at2 (o + r.val) x.val))
  reach : ∀ r x, k (ix3 0 r x) = reach (dfc (at2 (o + r.val) x.val))

/-- The unmasked weights are the class's weights, at distances 0 and 1. -/
theorem wOpen_apply {h f k : FVec Ideal S1x144x512 .f32} (hF : Fields dfc o h f k) {n : ℕ} {four one : Ideal .f32}
    (hR : IsRoot n four one) (hn : n ≤ 1) (r : Fin 144) (x : Fin 512) :
    wOpen h f four (ix2 r x) = weight (dfc (at2 (o + r.val) x.val)) n := by
  unfold wOpen
  pointwise
  rw [hF.inv, hF.four, hR.four_eq, weight, if_pos (Or.inl hn)]

/-- The masked weights are the class's weights, at the other distances. -/
theorem wMask_apply {h f k : FVec Ideal S1x144x512 .f32} (hF : Fields dfc o h f k) {n : ℕ} {four one : Ideal .f32}
    (hR : IsRoot n four one) (hn : ¬ n ≤ 1) (r : Fin 144) (x : Fin 512) :
    wMask h f k four one (ix2 r x) = weight (dfc (at2 (o + r.val) x.val)) n := by
  unfold wMask wOpen
  pointwise
  rw [hF.inv, hF.four, hF.reach, hR.four_eq, hR.one_eq, weight]
  by_cases hc : ((Real.sqrt n : ℝ) : EReal) ≤ reach (dfc (at2 (o + r.val) x.val))
  · rw [if_pos (Or.inr hc)]
    simp [Ideal.cmp, hc]
  · rw [if_neg (not_or.mpr ⟨hn, hc⟩)]
    simp [Ideal.cmp, hc]

/-- The plane scratch where the store of plane `p` of the pair `(b, a)` puts slab row `r`, column `x`. -/
theorem held_emb (a b p : ℕ) (inb : ∀ d, (![b, p, 144 * a, 0] : Fin 4 → ℕ) d + S1x1x144x512.size d ≤ S6x4x864x512.size d)
    (r : Fin 144) (x : Fin 512) :
    held img dfc o ((Rect.unit (s := S6x4x864x512) ![b, p, 144 * a, 0] S1x1x144x512.size inb).emb (ix4 0 0 r x))
      = plane img dfc p (a * a + b * b) (o + r.val) x.val := by
  have key : (144 * a + r.val) / 144 = a ∧ (144 * a + r.val) % 144 = r.val := by
    have := r.isLt; omega
  have e0 : ((Rect.unit (s := S6x4x864x512) ![b, p, 144 * a, 0] S1x1x144x512.size inb).emb (ix4 0 0 r x) 0).val = b := by
    rw [Rect.emb_apply]; show b + 1 * 0 = b; omega
  have e1 : ((Rect.unit (s := S6x4x864x512) ![b, p, 144 * a, 0] S1x1x144x512.size inb).emb (ix4 0 0 r x) 1).val = p := by
    rw [Rect.emb_apply]; show p + 1 * 0 = p; omega
  have e2 : ((Rect.unit (s := S6x4x864x512) ![b, p, 144 * a, 0] S1x1x144x512.size inb).emb (ix4 0 0 r x) 2).val = 144 * a + r.val := by
    rw [Rect.emb_apply]; show 144 * a + 1 * r.val = _; omega
  have e3 : ((Rect.unit (s := S6x4x864x512) ![b, p, 144 * a, 0] S1x1x144x512.size inb).emb (ix4 0 0 r x) 3).val = x.val := by
    rw [Rect.emb_apply]; show 0 + 1 * x.val = _; omega
  unfold held
  rw [e0, e1, e2, e3, key.1, key.2]

/-- The stores of one pair `(b, a)` are blocks of the plane scratch, if the weights are those of class `n = a² + b²` and
    the three loads the three colours of the slab. -/
theorem group (w : FVec Ideal S144x512 .f32) (q0 q1 q2 : FVec Ideal S1x144x512 .f32) (n a b : ℕ) (hn : a * a + b * b = n)
    (hw : ∀ r x, w (ix2 r x) = weight (dfc (at2 (o + r.val) x.val)) n)
    (h0 : ∀ r x, q0 (ix3 0 r x) = img (at3 0 (o + r.val) x.val))
    (h1 : ∀ r x, q1 (ix3 0 r x) = img (at3 1 (o + r.val) x.val))
    (h2 : ∀ r x, q2 (ix3 0 r x) = img (at3 2 (o + r.val) x.val))
    (ra : ℕ) (hra : ra = 144 * a)
    {i3 : ∀ d, (![b, 3, ra, 0] : Fin 4 → ℕ) d + S1x1x144x512.size d ≤ S6x4x864x512.size d}
    {i2 : ∀ d, (![b, 2, ra, 0] : Fin 4 → ℕ) d + S1x1x144x512.size d ≤ S6x4x864x512.size d}
    {i1 : ∀ d, (![b, 1, ra, 0] : Fin 4 → ℕ) d + S1x1x144x512.size d ≤ S6x4x864x512.size d}
    {i0 : ∀ d, (![b, 0, ra, 0] : Fin 4 → ℕ) d + S1x1x144x512.size d ≤ S6x4x864x512.size d}
    {L : List (View.Piece (Elt Ideal) S6x4x864x512 .bf16)} (hL : View.PiecesOf (held img dfc o) L) :
    View.PiecesOf (held img dfc o)
      (⟨Rect.unit (s := S6x4x864x512) ![b, 3, ra, 0] S1x1x144x512.size i3, stC w q2⟩
        :: ⟨Rect.unit (s := S6x4x864x512) ![b, 2, ra, 0] S1x1x144x512.size i2, stC w q1⟩
        :: ⟨Rect.unit (s := S6x4x864x512) ![b, 1, ra, 0] S1x1x144x512.size i1, stC w q0⟩
        :: ⟨Rect.unit (s := S6x4x864x512) ![b, 0, ra, 0] S1x1x144x512.size i0, stW w⟩ :: L) := by
  subst hra hn
  refine ⟨fun z => ?_, fun z => ?_, fun z => ?_, fun z => ?_, hL⟩
  all_goals
    obtain ⟨u, v, r, x, rfl⟩ : ∃ (u v : Fin 1) (r : Fin 144) (x : Fin 512), z = ix4 u v r x := ⟨z 0, z 1, z 2, z 3, by
      funext d; fin_cases d <;> rfl⟩
    obtain rfl : u = 0 := Subsingleton.elim _ _
    obtain rfl : v = 0 := Subsingleton.elim _ _
  · refine Eq.trans ?_ (held_emb a b 3 i3 r x).symm
    show stC w q2 (ix4 0 0 r x) = weight (dfc (at2 (o + r.val) x.val)) (a * a + b * b) * img (at3 2 (o + r.val) x.val)
    rw [← hw, ← h2]; unfold stC; pointwise
  · refine Eq.trans ?_ (held_emb a b 2 i2 r x).symm
    show stC w q1 (ix4 0 0 r x) = weight (dfc (at2 (o + r.val) x.val)) (a * a + b * b) * img (at3 1 (o + r.val) x.val)
    rw [← hw, ← h1]; unfold stC; pointwise
  · refine Eq.trans ?_ (held_emb a b 1 i1 r x).symm
    show stC w q0 (ix4 0 0 r x) = weight (dfc (at2 (o + r.val) x.val)) (a * a + b * b) * img (at3 0 (o + r.val) x.val)
    rw [← hw, ← h0]; unfold stC; pointwise
  · refine Eq.trans ?_ (held_emb a b 0 i0 r x).symm
    show stW w (ix4 0 0 r x) = weight (dfc (at2 (o + r.val) x.val)) (a * a + b * b)
    rw [← hw]; unfold stW; pointwise

end Planes

variable (c : Dev nD) (i : grid0.Coords)
  (arg1 : Memref sig .tc .vmem S3x512x512 .f32) (harg1 : arg1.IsWhole)
  (arg2 : Memref sig .tc .vmem S512x512 .f32) (harg2 : arg2.IsWhole)
  (arg6 : Memref sig .tc .vmem S6x4x864x512 .bf16)
  (arg8 : Memref sig .tc .vmem S3x144x512 .f32)
  (x0 : Vec Ideal S3x512x512 .f32) (x1 : Vec Ideal S512x512 .f32)

/-- The loads the body makes of the field scratch are the field planes of its slab. -/
theorem fields : Fields x1 (slab (tile i)) (v33 c i arg2 harg2 arg8 x1) (v35 c i arg2 harg2 arg8 x1) (v128 c i arg2 harg2 arg8 x1) :=
  ⟨inv_read c i arg2 harg2 arg8 x1, four_read c i arg2 harg2 arg8 x1, reach_read c i arg2 harg2 arg8 x1⟩

/-- The body's load of one colour's slab. -/
def colourLoad (o : Fin 3 → ℕ) (inb : ∀ a, o a + S1x144x512.size a ≤ S3x512x512.size a) : FVec Ideal S1x144x512 .f32 :=
  View.readAt (Elt Ideal) arg1.view (Rect.unit (s := S3x512x512) o S1x144x512.size inb).toLoadRect (harg1.unread x0)

variable {c i arg1 harg1 arg2 harg2 arg8 x0 x1}

/-- `group` at the body's own loads, for an unmasked class. -/
theorem openGroup {n : ℕ} {four one : Ideal .f32} (hR : IsRoot n four one) (hn : n ≤ 1) (a b : ℕ) (hab : a * a + b * b = n)
    (ra : ℕ) (hra : ra = 144 * a)
    {i3 : ∀ d, (![b, 3, ra, 0] : Fin 4 → ℕ) d + S1x1x144x512.size d ≤ S6x4x864x512.size d}
    {i2 : ∀ d, (![b, 2, ra, 0] : Fin 4 → ℕ) d + S1x1x144x512.size d ≤ S6x4x864x512.size d}
    {i1 : ∀ d, (![b, 1, ra, 0] : Fin 4 → ℕ) d + S1x1x144x512.size d ≤ S6x4x864x512.size d}
    {i0 : ∀ d, (![b, 0, ra, 0] : Fin 4 → ℕ) d + S1x1x144x512.size d ≤ S6x4x864x512.size d}
    {L : List (View.Piece (Elt Ideal) S6x4x864x512 .bf16)} (hL : View.PiecesOf (held x0 x1 (slab (tile i))) L) :
    View.PiecesOf (held x0 x1 (slab (tile i)))
      (⟨Rect.unit (s := S6x4x864x512) ![b, 3, ra, 0] S1x1x144x512.size i3, stC (wOpen (v33 c i arg2 harg2 arg8 x1) (v35 c i arg2 harg2 arg8 x1) four) (colourLoad arg1 harg1 x0 (k0_off4 i) (k0_off4_inb i))⟩
        :: ⟨Rect.unit (s := S6x4x864x512) ![b, 2, ra, 0] S1x1x144x512.size i2, stC (wOpen (v33 c i arg2 harg2 arg8 x1) (v35 c i arg2 harg2 arg8 x1) four) (colourLoad arg1 harg1 x0 (k0_off3 i) (k0_off3_inb i))⟩
        :: ⟨Rect.unit (s := S6x4x864x512) ![b, 1, ra, 0] S1x1x144x512.size i1, stC (wOpen (v33 c i arg2 harg2 arg8 x1) (v35 c i arg2 harg2 arg8 x1) four) (colourLoad arg1 harg1 x0 (k0_off2 i) (k0_off2_inb i))⟩
        :: ⟨Rect.unit (s := S6x4x864x512) ![b, 0, ra, 0] S1x1x144x512.size i0, stW (wOpen (v33 c i arg2 harg2 arg8 x1) (v35 c i arg2 harg2 arg8 x1) four)⟩ :: L) :=
  group _ _ _ _ n a b hab (wOpen_apply (fields c i arg2 harg2 arg8 x1) hR hn)
    (colour_read i arg1 harg1 x0 0 _ (off2_eq i) _) (colour_read i arg1 harg1 x0 1 _ (off3_eq i) _)
    (colour_read i arg1 harg1 x0 2 _ (off4_eq i) _) ra hra hL

/-- `group` at the body's own loads, for a masked class. -/
theorem maskGroup {n : ℕ} {four one : Ideal .f32} (hR : IsRoot n four one) (hn : ¬ n ≤ 1) (a b : ℕ) (hab : a * a + b * b = n)
    (ra : ℕ) (hra : ra = 144 * a)
    {i3 : ∀ d, (![b, 3, ra, 0] : Fin 4 → ℕ) d + S1x1x144x512.size d ≤ S6x4x864x512.size d}
    {i2 : ∀ d, (![b, 2, ra, 0] : Fin 4 → ℕ) d + S1x1x144x512.size d ≤ S6x4x864x512.size d}
    {i1 : ∀ d, (![b, 1, ra, 0] : Fin 4 → ℕ) d + S1x1x144x512.size d ≤ S6x4x864x512.size d}
    {i0 : ∀ d, (![b, 0, ra, 0] : Fin 4 → ℕ) d + S1x1x144x512.size d ≤ S6x4x864x512.size d}
    {L : List (View.Piece (Elt Ideal) S6x4x864x512 .bf16)} (hL : View.PiecesOf (held x0 x1 (slab (tile i))) L) :
    View.PiecesOf (held x0 x1 (slab (tile i)))
      (⟨Rect.unit (s := S6x4x864x512) ![b, 3, ra, 0] S1x1x144x512.size i3, stC (wMask (v33 c i arg2 harg2 arg8 x1) (v35 c i arg2 harg2 arg8 x1) (v128 c i arg2 harg2 arg8 x1) four one) (colourLoad arg1 harg1 x0 (k0_off4 i) (k0_off4_inb i))⟩
        :: ⟨Rect.unit (s := S6x4x864x512) ![b, 2, ra, 0] S1x1x144x512.size i2, stC (wMask (v33 c i arg2 harg2 arg8 x1) (v35 c i arg2 harg2 arg8 x1) (v128 c i arg2 harg2 arg8 x1) four one) (colourLoad arg1 harg1 x0 (k0_off3 i) (k0_off3_inb i))⟩
        :: ⟨Rect.unit (s := S6x4x864x512) ![b, 1, ra, 0] S1x1x144x512.size i1, stC (wMask (v33 c i arg2 harg2 arg8 x1) (v35 c i arg2 harg2 arg8 x1) (v128 c i arg2 harg2 arg8 x1) four one) (colourLoad arg1 harg1 x0 (k0_off2 i) (k0_off2_inb i))⟩
        :: ⟨Rect.unit (s := S6x4x864x512) ![b, 0, ra, 0] S1x1x144x512.size i0, stW (wMask (v33 c i arg2 harg2 arg8 x1) (v35 c i arg2 harg2 arg8 x1) (v128 c i arg2 harg2 arg8 x1) four one)⟩ :: L) :=
  group _ _ _ _ n a b hab (wMask_apply (fields c i arg2 harg2 arg8 x1) hR hn)
    (colour_read i arg1 harg1 x0 0 _ (off2_eq i) _) (colour_read i arg1 harg1 x0 1 _ (off3_eq i) _)
    (colour_read i arg1 harg1 x0 2 _ (off4_eq i) _) ra hra hL

/-- Every store the body makes into the plane scratch is a block of `held`. -/
theorem planes_pieces : View.PiecesOf (held x0 x1 (slab (tile i))) (HS0_104 c i arg1 harg1 arg2 harg2 arg8 x0 x1) := by
  unfold HS0_104
  refine maskGroup root25 (by decide) 0 5 rfl 0 rfl ?_
  refine maskGroup root25 (by decide) 3 4 rfl 432 rfl ?_
  refine maskGroup root25 (by decide) 4 3 rfl 576 rfl ?_
  refine maskGroup root25 (by decide) 5 0 rfl 720 rfl ?_
  refine maskGroup root20 (by decide) 2 4 rfl 288 rfl ?_
  refine maskGroup root20 (by decide) 4 2 rfl 576 rfl ?_
  refine maskGroup root18 (by decide) 3 3 rfl 432 rfl ?_
  refine maskGroup root17 (by decide) 1 4 rfl 144 rfl ?_
  refine maskGroup root17 (by decide) 4 1 rfl 576 rfl ?_
  refine maskGroup root16 (by decide) 0 4 rfl 0 rfl ?_
  refine maskGroup root16 (by decide) 4 0 rfl 576 rfl ?_
  refine maskGroup root13 (by decide) 2 3 rfl 288 rfl ?_
  refine maskGroup root13 (by decide) 3 2 rfl 432 rfl ?_
  refine maskGroup root10 (by decide) 1 3 rfl 144 rfl ?_
  refine maskGroup root10 (by decide) 3 1 rfl 432 rfl ?_
  refine maskGroup root9 (by decide) 0 3 rfl 0 rfl ?_
  refine maskGroup root9 (by decide) 3 0 rfl 432 rfl ?_
  refine maskGroup root8 (by decide) 2 2 rfl 288 rfl ?_
  refine maskGroup root5 (by decide) 1 2 rfl 144 rfl ?_
  refine maskGroup root5 (by decide) 2 1 rfl 288 rfl ?_
  refine maskGroup root4 (by decide) 0 2 rfl 0 rfl ?_
  refine maskGroup root4 (by decide) 2 0 rfl 288 rfl ?_
  refine maskGroup root2 (by decide) 1 1 rfl 144 rfl ?_
  refine openGroup root1 (by decide) 0 1 rfl 0 rfl ?_
  refine openGroup root1 (by decide) 1 0 rfl 144 rfl ?_
  refine openGroup root0 (by decide) 0 0 rfl 0 rfl ?_
  exact trivial

end Cert.Blur

end
-- ==== Proof.RowSums.lean ====
/- THE ROW SUMS. For each column offset `b` the body multiplies a banded matrix into the four planes of part `b`, giving
   the row-sum scratch: plane `p` at rows `128 p …`. `rowSums` is that content as a function of the matrix. -/
module

public import proofs.«01_k».proof.Proof.Planes

@[expose] public section

noncomputable section

namespace Cert.Blur

open Idealize.ShloMosaic Idealize.ShloMosaic.TcCoe Cert.KernelIdeal Cert.KernelIdeal.Gen Cert.KernelIdeal.Gen.kernelRun0_A.sl

/-- The index of the row matrices: bank `v`, column offset `b`, tile row `j`, column `k`. -/
def atS (v b j k : ℕ) : S3x6x128x864.Idx := ix4 (Fin.ofNat 3 v) (Fin.ofNat 6 b) (Fin.ofNat 128 j) (Fin.ofNat 864 k)

/-- The row-sum scratch at column offset `b`: row `128 p + j` is the matrix's row `j` against plane `p` of part `b`. -/
def rowSums (img : Pic.Idx → EReal) (dfc : Pln.Idx → EReal) (o v : ℕ) (sm : S3x6x128x864.Idx → EReal) (b : ℕ) :
    S512x512.Idx → EReal := fun y =>
  ∑ k ∈ Finset.range (144 * rows b), sm (atS v b ((y 0).val % 128) k)
    * plane img dfc ((y 0).val / 128) (k / 144 * (k / 144) + b * b) (o + k % 144) (y 1).val

/-! ## What is multiplied -/

variable {c : Dev nD} {i : grid0.Coords}
  {arg1 : Memref sig .tc .vmem S3x512x512 .f32} {harg1 : arg1.IsWhole}
  {arg2 : Memref sig .tc .vmem S512x512 .f32} {harg2 : arg2.IsWhole}
  {arg3 : Memref sig .tc .vmem S3x6x128x864 .bf16} {harg3 : arg3.IsWhole}
  {arg6 : Memref sig .tc .vmem S6x4x864x512 .bf16}
  {arg8 : Memref sig .tc .vmem S3x144x512 .f32}
  {arg9 : Memref sig .tc .vmem S512x512 .bf16}
  {x0 : Vec Ideal S3x512x512 .f32} {x1 : Vec Ideal S512x512 .f32} {x2 : Vec Ideal S3x6x128x864 .bf16}

/-- Whether, for every part, plane and row offset of the scheme, some store of the list is the one at that place. -/
def stored (L : List (View.Piece (Elt Ideal) S6x4x864x512 .bf16)) : Bool :=
  (List.range 6).all fun b => (List.range 4).all fun p => (List.range (rows b)).all fun a => L.any fun q =>
    decide (∀ d : Fin 4, q.1.off d = (![b, p, 144 * a, 0] : Fin 4 → ℕ) d ∧ q.1.size d = (![1, 1, 144, 512] : Fin 4 → ℕ) d
      ∧ q.1.stride d = 1)

/-- The body's stores are all there. -/
theorem planes_stored : stored (HS0_104 c i arg1 harg1 arg2 harg2 arg8 x0 x1) = true := by
  sl_kernel_rfl

/-- A read of the plane scratch at a stored place is `held` there. -/
theorem planes_canon (b : Fin 6) (p : Fin 4) (k : Fin 864) (hk : k.val < 144 * rows b.val) (x : Fin 512) :
    View.canon (HS0_104 c i arg1 harg1 arg2 harg2 arg8 x0 x1) (ix4 b p k x)
      = held x0 x1 (slab (tile i)) (ix4 b p k x) := by
  refine View.canon_apply_of_pieces _ _ planes_pieces.mem _ ?_
  have h := planes_stored (c := c) (i := i) (arg1 := arg1) (harg1 := harg1) (arg2 := arg2) (harg2 := harg2) (arg8 := arg8)
    (x0 := x0) (x1 := x1)
  have h := List.all_eq_true.mp h b.val (List.mem_range.mpr b.isLt)
  have h := List.all_eq_true.mp h p.val (List.mem_range.mpr p.isLt)
  have h := List.all_eq_true.mp h (k.val / 144) (List.mem_range.mpr (by omega))
  obtain ⟨q, hq, hd⟩ := List.any_eq_true.mp h
  have hd := of_decide_eq_true hd
  refine ⟨q, hq, q.1.mem_set.mpr fun d => ⟨(![0, 0, k.val % 144, x.val] : Fin 4 → ℕ) d, ?_, ?_⟩⟩
  · rw [(hd d).2.1]
    fin_cases d
    · exact Nat.one_pos
    · exact Nat.one_pos
    · exact Nat.mod_lt _ (by norm_num)
    · exact x.isLt
  · rw [(hd d).1, (hd d).2.2, Nat.one_mul]
    fin_cases d
    · rfl
    · rfl
    · exact (Nat.div_add_mod k.val 144).symm
    · exact (Nat.zero_add x.val).symm

/-- The load of plane `p` of part `b`. -/
theorem planes_read (W b p : ℕ) (hb : b < 6) (hp : p < 4) (hW : W ≤ 144 * rows b) (hW' : W ≤ 864)
    (inb : ∀ d, (![b, p, 0, 0] : Fin 4 → ℕ) d + (![1, 1, W, 512] : Fin 4 → ℕ) d ≤ S6x4x864x512.size d)
    (k : Fin W) (x : Fin 512) :
    arg6.view.readCov (HS0_104 c i arg1 harg1 arg2 harg2 arg8 x0 x1)
        (Rect.unit (s := S6x4x864x512) ![b, p, 0, 0] ![1, 1, W, 512] inb).toLoadRect (ix4 0 0 k x : (⟨4, ![1, 1, W, 512]⟩ : Shape).Idx)
      = plane x0 x1 p (k.val / 144 * (k.val / 144) + b * b) (slab (tile i) + k.val % 144) x.val := by
  rw [View.readCov_eq_canon']
  have e : (Rect.unit (s := S6x4x864x512) ![b, p, 0, 0] ![1, 1, W, 512] inb).toLoadRect.idx (ix4 0 0 k x : (⟨4, ![1, 1, W, 512]⟩ : Shape).Idx)
      = ix4 (⟨b, hb⟩ : Fin 6) (⟨p, hp⟩ : Fin 4) (⟨k.val, by omega⟩ : Fin 864) x := by
    funext d
    apply Fin.ext
    rw [LoadRect.idx_apply]
    fin_cases d
    · show b + 1 * 0 = b; omega
    · show p + 1 * 0 = p; omega
    · show 0 + 1 * k.val = k.val; omega
    · show 0 + 1 * x.val = x.val; omega
  have hk : k.val < 144 * rows b := by have := k.isLt; omega
  show View.canon _ _ = _
  rw [e, planes_canon ⟨b, hb⟩ ⟨p, hp⟩ ⟨k.val, by omega⟩ hk]
  rfl

/-- The load of the row matrix of column offset `b`. -/
theorem matrix_read (W b : ℕ) (hb : b < 6) (hW : W ≤ 864) (o : Fin 4 → ℕ) (ho : o = ![bank (tile i), b, 0, 0])
    (inb : ∀ d, o d + (![1, 1, 128, W] : Fin 4 → ℕ) d ≤ S3x6x128x864.size d) (j : Fin 128) (k : Fin W) :
    View.readAt (Elt Ideal) arg3.view (Rect.unit (s := S3x6x128x864) o ![1, 1, 128, W] inb).toLoadRect (harg3.unread x2)
        (ix4 0 0 j k : (⟨4, ![1, 1, 128, W]⟩ : Shape).Idx)
      = x2 (atS (bank (tile i)) b j.val k.val) := by
  subst ho
  have hv := (slab_reach (tile i)).2.2
  rw [View.readAt_eq_ld, Memref.IsWhole.read_unread]
  refine congrArg x2 (funext fun d => Fin.ext ?_)
  rw [LoadRect.idx_apply]
  fin_cases d
  · show bank (tile i) + 1 * 0 = bank (tile i) % 3; omega
  · show b + 1 * 0 = b % 6; omega
  · show 0 + 1 * j.val = j.val % 128; omega
  · show 0 + 1 * k.val = k.val % 864; omega

/-! ## The products -/

/-- The stored product of a row matrix of 864 columns and a plane of 864 rows. -/
def prod864 (s : FVec Ideal S1x1x128x864 .bf16) (q : FVec Ideal S1x1x864x512 .bf16) : FVec Ideal S128x512 .bf16 :=
  shapeCast S128x512 (truncf .bf16 (matmul dot_S128x864_S864x512_S128x512_1_0_0_1_n_n none
    (shapeCast S128x864 s shapeCasts_S1x1x128x864_S128x864) (shapeCast S864x512 q shapeCasts_S1x1x864x512_S864x512)
    (constant S128x512 .f32 0x00000000#32)) bitsLt_bf16_f32) shapeCasts_S128x512_S128x512

/-- Its entries: row times column. -/
theorem prod864_apply (s : FVec Ideal S1x1x128x864 .bf16) (q : FVec Ideal S1x1x864x512 .bf16) (j : Fin 128) (x : Fin 512) :
    prod864 s q (ix2 j x) = ∑ k : Fin 864, s (ix4 0 0 j k) * q (ix4 0 0 k x) := by
  unfold prod864
  pointwise

/-- The stored product of a row matrix of 720 columns and a plane of 720 rows. -/
def prod720 (s : FVec Ideal S1x1x128x720 .bf16) (q : FVec Ideal S1x1x720x512 .bf16) : FVec Ideal S128x512 .bf16 :=
  shapeCast S128x512 (truncf .bf16 (matmul dot_S128x720_S720x512_S128x512_1_0_0_1_n_n none
    (shapeCast S128x720 s shapeCasts_S1x1x128x720_S128x720) (shapeCast S720x512 q shapeCasts_S1x1x720x512_S720x512)
    (constant S128x512 .f32 0x00000000#32)) bitsLt_bf16_f32) shapeCasts_S128x512_S128x512

/-- Its entries: row times column. -/
theorem prod720_apply (s : FVec Ideal S1x1x128x720 .bf16) (q : FVec Ideal S1x1x720x512 .bf16) (j : Fin 128) (x : Fin 512) :
    prod720 s q (ix2 j x) = ∑ k : Fin 720, s (ix4 0 0 j k) * q (ix4 0 0 k x) := by
  unfold prod720
  pointwise

/-- The stored product of a row matrix of 576 columns and a plane of 576 rows. -/
def prod576 (s : FVec Ideal S1x1x128x576 .bf16) (q : FVec Ideal S1x1x576x512 .bf16) : FVec Ideal S128x512 .bf16 :=
  shapeCast S128x512 (truncf .bf16 (matmul dot_S128x576_S576x512_S128x512_1_0_0_1_n_n none
    (shapeCast S128x576 s shapeCasts_S1x1x128x576_S128x576) (shapeCast S576x512 q shapeCasts_S1x1x576x512_S576x512)
    (constant S128x512 .f32 0x00000000#32)) bitsLt_bf16_f32) shapeCasts_S128x512_S128x512

/-- Its entries: row times column. -/
theorem prod576_apply (s : FVec Ideal S1x1x128x576 .bf16) (q : FVec Ideal S1x1x576x512 .bf16) (j : Fin 128) (x : Fin 512) :
    prod576 s q (ix2 j x) = ∑ k : Fin 576, s (ix4 0 0 j k) * q (ix4 0 0 k x) := by
  unfold prod576
  pointwise

/-- The stored product of a row matrix of 144 columns and a plane of 144 rows. -/
def prod144 (s : FVec Ideal S1x1x128x144 .bf16) (q : FVec Ideal S1x1x144x512 .bf16) : FVec Ideal S128x512 .bf16 :=
  shapeCast S128x512 (truncf .bf16 (matmul dot_S128x144_S144x512_S128x512_1_0_0_1_n_n none
    (shapeCast S128x144 s shapeCasts_S1x1x128x144_S128x144) (shapeCast S144x512 q shapeCasts_S1x1x144x512_S144x512)
    (constant S128x512 .f32 0x00000000#32)) bitsLt_bf16_f32) shapeCasts_S128x512_S128x512

/-- Its entries: row times column. -/
theorem prod144_apply (s : FVec Ideal S1x1x128x144 .bf16) (q : FVec Ideal S1x1x144x512 .bf16) (j : Fin 128) (x : Fin 512) :
    prod144 s q (ix2 j x) = ∑ k : Fin 144, s (ix4 0 0 j k) * q (ix4 0 0 k x) := by
  unfold prod144
  pointwise

/-- Four stores of 128 rows, each a 128-row block of `G`, leave `G`, whatever was stored before. -/
theorem four_blocks (G : S512x512.Idx → EReal) (w0 w1 w2 w3 : FVec Ideal S128x512 .bf16)
    (h0 : ∀ (j : Fin 128) (x : Fin 512), w0 (ix2 j x) = G (ix2 ⟨0 + j.val, by omega⟩ x))
    (h1 : ∀ (j : Fin 128) (x : Fin 512), w1 (ix2 j x) = G (ix2 ⟨128 + j.val, by omega⟩ x))
    (h2 : ∀ (j : Fin 128) (x : Fin 512), w2 (ix2 j x) = G (ix2 ⟨256 + j.val, by omega⟩ x))
    (h3 : ∀ (j : Fin 128) (x : Fin 512), w3 (ix2 j x) = G (ix2 ⟨384 + j.val, by omega⟩ x))
    {i0 : ∀ d, (![0, 0] : Fin 2 → ℕ) d + S128x512.size d ≤ S512x512.size d}
    {i1 : ∀ d, (![128, 0] : Fin 2 → ℕ) d + S128x512.size d ≤ S512x512.size d}
    {i2 : ∀ d, (![256, 0] : Fin 2 → ℕ) d + S128x512.size d ≤ S512x512.size d}
    {i3 : ∀ d, (![384, 0] : Fin 2 → ℕ) d + S128x512.size d ≤ S512x512.size d}
    (L : List (View.Piece (Elt Ideal) S512x512 .bf16)) :
    View.canon (⟨Rect.unit (s := S512x512) ![384, 0] S128x512.size i3, w3⟩ :: ⟨Rect.unit (s := S512x512) ![256, 0] S128x512.size i2, w2⟩
      :: ⟨Rect.unit (s := S512x512) ![128, 0] S128x512.size i1, w1⟩ :: ⟨Rect.unit (s := S512x512) ![0, 0] S128x512.size i0, w0⟩ :: L) = G := by
  funext y
  have hz : ∀ z : S128x512.Idx, ∃ (j : Fin 128) (x : Fin 512), z = ix2 j x := fun z => ⟨z 0, z 1, by funext d; fin_cases d <;> rfl⟩
  refine View.canon_append_of_piecesOf G L [⟨Rect.unit (s := S512x512) ![384, 0] S128x512.size i3, w3⟩,
    ⟨Rect.unit (s := S512x512) ![256, 0] S128x512.size i2, w2⟩, ⟨Rect.unit (s := S512x512) ![128, 0] S128x512.size i1, w1⟩,
    ⟨Rect.unit (s := S512x512) ![0, 0] S128x512.size i0, w0⟩] ⟨fun z => ?_, fun z => ?_, fun z => ?_, fun z => ?_, trivial⟩ y
    (View.cover_of_tiledL (s := S512x512) _ S128x512.size (by sl_kernel_rfl) y)
  all_goals obtain ⟨j, x, rfl⟩ := hz z
  · refine (h3 j x).trans (congrArg G (funext fun d => Fin.ext ?_))
    rw [Rect.emb_apply]
    fin_cases d
    · show 384 + j.val = 384 + 1 * j.val; omega
    · show x.val = 0 + 1 * x.val; omega
  · refine (h2 j x).trans (congrArg G (funext fun d => Fin.ext ?_))
    rw [Rect.emb_apply]
    fin_cases d
    · show 256 + j.val = 256 + 1 * j.val; omega
    · show x.val = 0 + 1 * x.val; omega
  · refine (h1 j x).trans (congrArg G (funext fun d => Fin.ext ?_))
    rw [Rect.emb_apply]
    fin_cases d
    · show 128 + j.val = 128 + 1 * j.val; omega
    · show x.val = 0 + 1 * x.val; omega
  · refine (h0 j x).trans (congrArg G (funext fun d => Fin.ext ?_))
    rw [Rect.emb_apply]
    fin_cases d
    · show 0 + j.val = 0 + 1 * j.val; omega
    · show x.val = 0 + 1 * x.val; omega

/-- A sum over the columns of the matrix is the row sum of plane `p`, at row `128 p + j`. -/
theorem rowSums_at {img : Pic.Idx → EReal} {dfc : Pln.Idx → EReal} {o v : ℕ} {sm : S3x6x128x864.Idx → EReal} (b W p : ℕ)
    (hW : 144 * rows b = W) (s q : Fin W → EReal) (j : Fin 128) (x : Fin 512) (R : Fin 512) (hR : R.val = 128 * p + j.val)
    (hs : ∀ k, s k = sm (atS v b j.val k.val))
    (hq : ∀ k, q k = plane img dfc p (k.val / 144 * (k.val / 144) + b * b) (o + k.val % 144) x.val) :
    ∑ k : Fin W, s k * q k = rowSums img dfc o v sm b (ix2 R x) := by
  subst hW
  have e1 : R.val % 128 = j.val := by omega
  have e2 : R.val / 128 = p := by omega
  show _ = ∑ k ∈ Finset.range (144 * rows b), sm (atS v b (R.val % 128) k)
    * plane img dfc (R.val / 128) (k / 144 * (k / 144) + b * b) (o + k % 144) x.val
  rw [e1, e2, Finset.sum_range]
  exact Finset.sum_congr rfl fun k _ => by rw [hs, hq]

theorem off5_eq (i : grid0.Coords) : k0_off5 i = ![bank (tile i), 0, 0, 0] := by
  unfold k0_off5 tile; generalize i 0 = t; revert t; decide

theorem off6_eq (i : grid0.Coords) : k0_off6 i = ![bank (tile i), 1, 0, 0] := by
  unfold k0_off6 tile; generalize i 0 = t; revert t; decide

theorem off7_eq (i : grid0.Coords) : k0_off7 i = ![bank (tile i), 2, 0, 0] := by
  unfold k0_off7 tile; generalize i 0 = t; revert t; decide

theorem off8_eq (i : grid0.Coords) : k0_off8 i = ![bank (tile i), 3, 0, 0] := by
  unfold k0_off8 tile; generalize i 0 = t; revert t; decide

theorem off9_eq (i : grid0.Coords) : k0_off9 i = ![bank (tile i), 4, 0, 0] := by
  unfold k0_off9 tile; generalize i 0 = t; revert t; decide

theorem off10_eq (i : grid0.Coords) : k0_off10 i = ![bank (tile i), 5, 0, 0] := by
  unfold k0_off10 tile; generalize i 0 = t; revert t; decide

/-- The row-sum scratch after column offset 0. -/
theorem rowSums_0 : View.canon (HS3_4 c i arg1 harg1 arg2 harg2 arg3 harg3 arg6 arg8 x0 x1 x2)
    = rowSums x0 x1 (slab (tile i)) (bank (tile i)) x2 0 := by
  have hs := fun (inb) (j : Fin 128) (k : Fin 864) => matrix_read (i := i) (arg3 := arg3) (harg3 := harg3) (x2 := x2) 864 0 (by decide) (by decide) _ (off5_eq i) inb j k
  have hq := fun (p : ℕ) (hp : p < 4) (inb) (x : Fin 512) (k : Fin 864) => planes_read (c := c) (i := i) (arg1 := arg1) (harg1 := harg1)
    (arg2 := arg2) (harg2 := harg2) (arg6 := arg6) (arg8 := arg8) (x0 := x0) (x1 := x1) 864 0 p (by decide) hp (by decide) (by decide) inb k x
  unfold HS3_4 r_56 k0_pay175
  refine four_blocks _ _ _ _ _ (fun j x => ?_) (fun j x => ?_) (fun j x => ?_) (fun j x => ?_) _
  · exact (prod864_apply _ _ j x).trans (rowSums_at 0 864 0 rfl _ _ j x _ rfl (hs _ j) (hq 0 (by decide) _ x))
  · exact (prod864_apply _ _ j x).trans (rowSums_at 0 864 1 rfl _ _ j x _ rfl (hs _ j) (hq 1 (by decide) _ x))
  · exact (prod864_apply _ _ j x).trans (rowSums_at 0 864 2 rfl _ _ j x _ rfl (hs _ j) (hq 2 (by decide) _ x))
  · exact (prod864_apply _ _ j x).trans (rowSums_at 0 864 3 rfl _ _ j x _ rfl (hs _ j) (hq 3 (by decide) _ x))

/-- The row-sum scratch after column offset 1. -/
theorem rowSums_1 : View.canon (HS3_8 c i arg1 harg1 arg2 harg2 arg3 harg3 arg6 arg8 x0 x1 x2)
    = rowSums x0 x1 (slab (tile i)) (bank (tile i)) x2 1 := by
  have hs := fun (inb) (j : Fin 128) (k : Fin 720) => matrix_read (i := i) (arg3 := arg3) (harg3 := harg3) (x2 := x2) 720 1 (by decide) (by decide) _ (off6_eq i) inb j k
  have hq := fun (p : ℕ) (hp : p < 4) (inb) (x : Fin 512) (k : Fin 720) => planes_read (c := c) (i := i) (arg1 := arg1) (harg1 := harg1)
    (arg2 := arg2) (harg2 := harg2) (arg6 := arg6) (arg8 := arg8) (x0 := x0) (x1 := x1) 720 1 p (by decide) hp (by decide) (by decide) inb k x
  unfold HS3_8 r_57 k0_pay182
  refine four_blocks _ _ _ _ _ (fun j x => ?_) (fun j x => ?_) (fun j x => ?_) (fun j x => ?_) _
  · exact (prod720_apply _ _ j x).trans (rowSums_at 1 720 0 rfl _ _ j x _ rfl (hs _ j) (hq 0 (by decide) _ x))
  · exact (prod720_apply _ _ j x).trans (rowSums_at 1 720 1 rfl _ _ j x _ rfl (hs _ j) (hq 1 (by decide) _ x))
  · exact (prod720_apply _ _ j x).trans (rowSums_at 1 720 2 rfl _ _ j x _ rfl (hs _ j) (hq 2 (by decide) _ x))
  · exact (prod720_apply _ _ j x).trans (rowSums_at 1 720 3 rfl _ _ j x _ rfl (hs _ j) (hq 3 (by decide) _ x))

/-- The row-sum scratch after column offset 2. -/
theorem rowSums_2 : View.canon (HS3_12 c i arg1 harg1 arg2 harg2 arg3 harg3 arg6 arg8 x0 x1 x2)
    = rowSums x0 x1 (slab (tile i)) (bank (tile i)) x2 2 := by
  have hs := fun (inb) (j : Fin 128) (k : Fin 720) => matrix_read (i := i) (arg3 := arg3) (harg3 := harg3) (x2 := x2) 720 2 (by decide) (by decide) _ (off7_eq i) inb j k
  have hq := fun (p : ℕ) (hp : p < 4) (inb) (x : Fin 512) (k : Fin 720) => planes_read (c := c) (i := i) (arg1 := arg1) (harg1 := harg1)
    (arg2 := arg2) (harg2 := harg2) (arg6 := arg6) (arg8 := arg8) (x0 := x0) (x1 := x1) 720 2 p (by decide) hp (by decide) (by decide) inb k x
  unfold HS3_12
  refine four_blocks _ _ _ _ _ (fun j x => ?_) (fun j x => ?_) (fun j x => ?_) (fun j x => ?_) _
  · exact (prod720_apply _ _ j x).trans (rowSums_at 2 720 0 rfl _ _ j x _ rfl (hs _ j) (hq 0 (by decide) _ x))
  · exact (prod720_apply _ _ j x).trans (rowSums_at 2 720 1 rfl _ _ j x _ rfl (hs _ j) (hq 1 (by decide) _ x))
  · exact (prod720_apply _ _ j x).trans (rowSums_at 2 720 2 rfl _ _ j x _ rfl (hs _ j) (hq 2 (by decide) _ x))
  · exact (prod720_apply _ _ j x).trans (rowSums_at 2 720 3 rfl _ _ j x _ rfl (hs _ j) (hq 3 (by decide) _ x))

/-- The row-sum scratch after column offset 3. -/
theorem rowSums_3 : View.canon (HS3_16 c i arg1 harg1 arg2 harg2 arg3 harg3 arg6 arg8 x0 x1 x2)
    = rowSums x0 x1 (slab (tile i)) (bank (tile i)) x2 3 := by
  have hs := fun (inb) (j : Fin 128) (k : Fin 720) => matrix_read (i := i) (arg3 := arg3) (harg3 := harg3) (x2 := x2) 720 3 (by decide) (by decide) _ (off8_eq i) inb j k
  have hq := fun (p : ℕ) (hp : p < 4) (inb) (x : Fin 512) (k : Fin 720) => planes_read (c := c) (i := i) (arg1 := arg1) (harg1 := harg1)
    (arg2 := arg2) (harg2 := harg2) (arg6 := arg6) (arg8 := arg8) (x0 := x0) (x1 := x1) 720 3 p (by decide) hp (by decide) (by decide) inb k x
  unfold HS3_16
  refine four_blocks _ _ _ _ _ (fun j x => ?_) (fun j x => ?_) (fun j x => ?_) (fun j x => ?_) _
  · exact (prod720_apply _ _ j x).trans (rowSums_at 3 720 0 rfl _ _ j x _ rfl (hs _ j) (hq 0 (by decide) _ x))
  · exact (prod720_apply _ _ j x).trans (rowSums_at 3 720 1 rfl _ _ j x _ rfl (hs _ j) (hq 1 (by decide) _ x))
  · exact (prod720_apply _ _ j x).trans (rowSums_at 3 720 2 rfl _ _ j x _ rfl (hs _ j) (hq 2 (by decide) _ x))
  · exact (prod720_apply _ _ j x).trans (rowSums_at 3 720 3 rfl _ _ j x _ rfl (hs _ j) (hq 3 (by decide) _ x))

/-- The row-sum scratch after column offset 4. -/
theorem rowSums_4 : View.canon (HS3_20 c i arg1 harg1 arg2 harg2 arg3 harg3 arg6 arg8 x0 x1 x2)
    = rowSums x0 x1 (slab (tile i)) (bank (tile i)) x2 4 := by
  have hs := fun (inb) (j : Fin 128) (k : Fin 576) => matrix_read (i := i) (arg3 := arg3) (harg3 := harg3) (x2 := x2) 576 4 (by decide) (by decide) _ (off9_eq i) inb j k
  have hq := fun (p : ℕ) (hp : p < 4) (inb) (x : Fin 512) (k : Fin 576) => planes_read (c := c) (i := i) (arg1 := arg1) (harg1 := harg1)
    (arg2 := arg2) (harg2 := harg2) (arg6 := arg6) (arg8 := arg8) (x0 := x0) (x1 := x1) 576 4 p (by decide) hp (by decide) (by decide) inb k x
  unfold HS3_20 r_63 k0_pay206
  refine four_blocks _ _ _ _ _ (fun j x => ?_) (fun j x => ?_) (fun j x => ?_) (fun j x => ?_) _
  · exact (prod576_apply _ _ j x).trans (rowSums_at 4 576 0 rfl _ _ j x _ rfl (hs _ j) (hq 0 (by decide) _ x))
  · exact (prod576_apply _ _ j x).trans (rowSums_at 4 576 1 rfl _ _ j x _ rfl (hs _ j) (hq 1 (by decide) _ x))
  · exact (prod576_apply _ _ j x).trans (rowSums_at 4 576 2 rfl _ _ j x _ rfl (hs _ j) (hq 2 (by decide) _ x))
  · exact (prod576_apply _ _ j x).trans (rowSums_at 4 576 3 rfl _ _ j x _ rfl (hs _ j) (hq 3 (by decide) _ x))

/-- The row-sum scratch after column offset 5. -/
theorem rowSums_5 : View.canon (HS3_24 c i arg1 harg1 arg2 harg2 arg3 harg3 arg6 arg8 x0 x1 x2)
    = rowSums x0 x1 (slab (tile i)) (bank (tile i)) x2 5 := by
  have hs := fun (inb) (j : Fin 128) (k : Fin 144) => matrix_read (i := i) (arg3 := arg3) (harg3 := harg3) (x2 := x2) 144 5 (by decide) (by decide) _ (off10_eq i) inb j k
  have hq := fun (p : ℕ) (hp : p < 4) (inb) (x : Fin 512) (k : Fin 144) => planes_read (c := c) (i := i) (arg1 := arg1) (harg1 := harg1)
    (arg2 := arg2) (harg2 := harg2) (arg6 := arg6) (arg8 := arg8) (x0 := x0) (x1 := x1) 144 5 p (by decide) hp (by decide) (by decide) inb k x
  unfold HS3_24
  refine four_blocks _ _ _ _ _ (fun j x => ?_) (fun j x => ?_) (fun j x => ?_) (fun j x => ?_) _
  · exact (prod144_apply _ _ j x).trans (rowSums_at 5 144 0 rfl _ _ j x _ rfl (hs _ j) (hq 0 (by decide) _ x))
  · exact (prod144_apply _ _ j x).trans (rowSums_at 5 144 1 rfl _ _ j x _ rfl (hs _ j) (hq 1 (by decide) _ x))
  · exact (prod144_apply _ _ j x).trans (rowSums_at 5 144 2 rfl _ _ j x _ rfl (hs _ j) (hq 2 (by decide) _ x))
  · exact (prod144_apply _ _ j x).trans (rowSums_at 5 144 3 rfl _ _ j x _ rfl (hs _ j) (hq 3 (by decide) _ x))

end Cert.Blur

end
-- ==== Proof.Acc.lean ====
/- THE ACCUMULATOR. For each column offset the body multiplies the row sums by a banded matrix, one half of the columns at
   a time, and adds the product to what it has. `colSums` is one product as a function of the whole width; after the last
   the accumulator holds their sum, and the body's result is each colour's quarter times the reciprocal of the weights'. -/
module

public import proofs.«01_k».proof.Proof.RowSums

@[expose] public section

noncomputable section

namespace Cert.Blur

open Idealize.ShloMosaic Idealize.ShloMosaic.TcCoe Cert.KernelIdeal Cert.KernelIdeal.Gen Cert.KernelIdeal.Gen.kernelRun0_A.sl

/-- The index of the column matrices: half `t`, column offset `b`, row `k`, column `x`. -/
def atC (t b k x : ℕ) : S2x6x266x256.Idx := ix4 (Fin.ofNat 2 t) (Fin.ofNat 6 b) (Fin.ofNat 266 k) (Fin.ofNat 256 x)

/-- The product of row sums `T` with the column matrices of offset `b`: the left half of the columns draws on columns
    `0 … 265`, the right half on `246 … 511`. -/
def colSums (T : S512x512.Idx → EReal) (cm : S2x6x266x256.Idx → EReal) (b : ℕ) : S512x512.Idx → EReal := fun y =>
  ∑ k ∈ Finset.range 266, T (ix2 (y 0) (Fin.ofNat 512 (246 * ((y 1).val / 256) + k))) * cm (atC ((y 1).val / 256) b k ((y 1).val % 256))

/-- The accumulator after column offset `b`. -/
def acc (T : ℕ → S512x512.Idx → EReal) (cm : S2x6x266x256.Idx → EReal) (b : ℕ) : S512x512.Idx → EReal := fun y =>
  ∑ d ∈ Finset.range (b + 1), colSums (T d) cm d y

/-- One half's product. -/
def halfProd (t : FVec Ideal S512x266 .bf16) (q : FVec Ideal S1x1x266x256 .bf16) : FVec Ideal S512x256 .f32 :=
  matmul dot_S512x266_S266x256_S512x256_1_0_0_1_n_n none t (shapeCast S266x256 q shapeCasts_S1x1x266x256_S266x256)
    (constant S512x256 .f32 0x00000000#32)

/-- The first store of a half. -/
def halfFirst (t : FVec Ideal S512x266 .bf16) (q : FVec Ideal S1x1x266x256 .bf16) : FVec Ideal S512x256 .f32 :=
  shapeCast S512x256 (halfProd t q) shapeCasts_S512x256_S512x256

/-- A later store of a half: what it held, plus the product. -/
def halfNext (a : FVec Ideal S512x256 .f32) (t : FVec Ideal S512x266 .bf16) (q : FVec Ideal S1x1x266x256 .bf16) : FVec Ideal S512x256 .f32 :=
  shapeCast S512x256 (addf a (halfProd t q)) shapeCasts_S512x256_S512x256

/-- The product's entries. -/
theorem halfFirst_apply (t : FVec Ideal S512x266 .bf16) (q : FVec Ideal S1x1x266x256 .bf16) (r : Fin 512) (x : Fin 256) :
    halfFirst t q (ix2 r x) = ∑ k : Fin 266, t (ix2 r k) * q (ix4 0 0 k x) := by
  unfold halfFirst halfProd
  pointwise

/-- A later store's entries. -/
theorem halfNext_apply (a : FVec Ideal S512x256 .f32) (t : FVec Ideal S512x266 .bf16) (q : FVec Ideal S1x1x266x256 .bf16) (r : Fin 512) (x : Fin 256) :
    halfNext a t q (ix2 r x) = a (ix2 r x) + ∑ k : Fin 266, t (ix2 r k) * q (ix4 0 0 k x) := by
  unfold halfNext halfProd
  pointwise

/-- One half's product is `colSums` there. -/
theorem colSums_at (T : S512x512.Idx → EReal) (cm : S2x6x266x256.Idx → EReal) (b h : ℕ) (t q : Fin 266 → EReal) (r X : Fin 512)
    (x : Fin 256) (hX : X.val = 256 * h + x.val) (hh : h < 2)
    (ht : ∀ k : Fin 266, t k = T (ix2 r ⟨246 * h + k.val, by omega⟩)) (hq : ∀ k : Fin 266, q k = cm (atC h b k.val x.val)) :
    ∑ k : Fin 266, t k * q k = colSums T cm b (ix2 r X) := by
  have e1 : X.val / 256 = h := by omega
  have e2 : X.val % 256 = x.val := by omega
  show _ = ∑ k ∈ Finset.range 266, T (ix2 r (Fin.ofNat 512 (246 * (X.val / 256) + k))) * cm (atC (X.val / 256) b k (X.val % 256))
  rw [e1, e2, Finset.sum_range]
  refine Finset.sum_congr rfl fun k _ => ?_
  rw [ht, hq]
  congr 3
  exact Fin.ext (Nat.mod_eq_of_lt (by omega)).symm

/-- An index of a half, and where it lies in the whole. -/
theorem half_emb (o : ℕ) (inb : ∀ d, (![0, o] : Fin 2 → ℕ) d + S512x256.size d ≤ S512x512.size d) (r : Fin 512) (x : Fin 256) (h : o + 256 ≤ 512) :
    (Rect.unit (s := S512x512) ![0, o] S512x256.size inb).emb (ix2 r x) = ix2 r (⟨o + x.val, by omega⟩ : Fin 512) := by
  funext d
  apply Fin.ext
  rw [Rect.emb_apply]
  fin_cases d
  · show 0 + 1 * r.val = r.val; omega
  · show o + 1 * x.val = o + x.val; omega

/-- A load of row sums: 266 columns from `o`. -/
theorem rowSums_load {T : S512x512.Idx → EReal} {L : List (View.Piece (Elt Ideal) S512x512 .bf16)} (hT : View.canon L = T)
    (arg9 : Memref sig .tc .vmem S512x512 .bf16) (o : ℕ)
    (inb : ∀ d, (![0, o] : Fin 2 → ℕ) d + S512x266.size d ≤ S512x512.size d) (h : o + 266 ≤ 512) (r : Fin 512) (k : Fin 266) :
    arg9.view.readCov L (Rect.unit (s := S512x512) ![0, o] S512x266.size inb).toLoadRect (ix2 r k) = T (ix2 r ⟨o + k.val, by omega⟩) := by
  rw [View.readCov_eq_canon', hT]
  refine congrArg T (funext fun d => Fin.ext ?_)
  rw [LoadRect.idx_apply]
  fin_cases d
  · show 0 + 1 * r.val = r.val; omega
  · show o + 1 * k.val = o + k.val; omega

/-- The load of one column matrix. -/
theorem column_read (arg4 : Memref sig .tc .vmem S2x6x266x256 .bf16) (harg4 : arg4.IsWhole) (x3 : Vec Ideal S2x6x266x256 .bf16)
    (h b : ℕ) (hh : h < 2) (hb : b < 6) (inb : ∀ d, (![h, b, 0, 0] : Fin 4 → ℕ) d + S1x1x266x256.size d ≤ S2x6x266x256.size d)
    (k : Fin 266) (x : Fin 256) :
    View.readAt (Elt Ideal) arg4.view (Rect.unit (s := S2x6x266x256) ![h, b, 0, 0] S1x1x266x256.size inb).toLoadRect (harg4.unread x3) (ix4 0 0 k x)
      = x3 (atC h b k.val x.val) := by
  rw [View.readAt_eq_ld, Memref.IsWhole.read_unread]
  refine congrArg x3 (funext fun d => Fin.ext ?_)
  rw [LoadRect.idx_apply]
  fin_cases d
  · show h + 1 * 0 = h % 2; omega
  · show b + 1 * 0 = b % 6; omega
  · show 0 + 1 * k.val = k.val % 266; omega
  · show 0 + 1 * x.val = x.val % 256; omega

/-- Two stores that are the halves of `G` leave `G`, whatever was stored before. -/
theorem two_halves (G : S512x512.Idx → EReal) (w0 w1 : FVec Ideal S512x256 .f32)
    (h0 : ∀ (r : Fin 512) (x : Fin 256), w0 (ix2 r x) = G (ix2 r ⟨0 + x.val, by omega⟩))
    (h1 : ∀ (r : Fin 512) (x : Fin 256), w1 (ix2 r x) = G (ix2 r ⟨256 + x.val, by omega⟩))
    {i0 : ∀ d, (![0, 0] : Fin 2 → ℕ) d + S512x256.size d ≤ S512x512.size d}
    {i1 : ∀ d, (![0, 256] : Fin 2 → ℕ) d + S512x256.size d ≤ S512x512.size d}
    (L : List (View.Piece (Elt Ideal) S512x512 .f32)) :
    View.canon (⟨Rect.unit (s := S512x512) ![0, 256] S512x256.size i1, w1⟩ :: ⟨Rect.unit (s := S512x512) ![0, 0] S512x256.size i0, w0⟩ :: L) = G := by
  funext y
  have hz : ∀ z : S512x256.Idx, ∃ (r : Fin 512) (x : Fin 256), z = ix2 r x := fun z => ⟨z 0, z 1, by funext d; fin_cases d <;> rfl⟩
  refine View.canon_append_of_piecesOf G L [⟨Rect.unit (s := S512x512) ![0, 256] S512x256.size i1, w1⟩,
    ⟨Rect.unit (s := S512x512) ![0, 0] S512x256.size i0, w0⟩] ⟨fun z => ?_, fun z => ?_, trivial⟩ y
    (View.cover_of_tiledL (s := S512x512) _ S512x256.size (by sl_kernel_rfl) y)
  all_goals obtain ⟨r, x, rfl⟩ := hz z
  · exact (h1 r x).trans (congrArg G (half_emb 256 i1 r x (by decide)).symm)
  · exact (h0 r x).trans (congrArg G (half_emb 0 i0 r x (by decide)).symm)

/-- The accumulator's two stores at the first column offset. -/
theorem acc_first (T : ℕ → S512x512.Idx → EReal) {H3 : List (View.Piece (Elt Ideal) S512x512 .bf16)}
    (hT : View.canon H3 = T 0) (arg9 : Memref sig .tc .vmem S512x512 .bf16)
    (arg4 : Memref sig .tc .vmem S2x6x266x256 .bf16) (harg4 : arg4.IsWhole) (x3 : Vec Ideal S2x6x266x256 .bf16)
    {i0 : ∀ d, (![0, 0] : Fin 2 → ℕ) d + S512x256.size d ≤ S512x512.size d}
    {i1 : ∀ d, (![0, 256] : Fin 2 → ℕ) d + S512x256.size d ≤ S512x512.size d}
    {j0 : ∀ d, (![0, 0] : Fin 2 → ℕ) d + S512x266.size d ≤ S512x512.size d}
    {j1 : ∀ d, (![0, 246] : Fin 2 → ℕ) d + S512x266.size d ≤ S512x512.size d}
    {k0 : ∀ d, (![0, 0, 0, 0] : Fin 4 → ℕ) d + S1x1x266x256.size d ≤ S2x6x266x256.size d}
    {k1 : ∀ d, (![1, 0, 0, 0] : Fin 4 → ℕ) d + S1x1x266x256.size d ≤ S2x6x266x256.size d} :
    View.canon (Val := Elt Ideal) (e := .f32) [⟨Rect.unit (s := S512x512) ![0, 256] S512x256.size i1,
          halfFirst (arg9.view.readCov H3 (Rect.unit (s := S512x512) ![0, 246] S512x266.size j1).toLoadRect)
            (View.readAt (Elt Ideal) arg4.view (Rect.unit (s := S2x6x266x256) ![1, 0, 0, 0] S1x1x266x256.size k1).toLoadRect (harg4.unread x3))⟩,
        ⟨Rect.unit (s := S512x512) ![0, 0] S512x256.size i0,
          halfFirst (arg9.view.readCov H3 (Rect.unit (s := S512x512) ![0, 0] S512x266.size j0).toLoadRect)
            (View.readAt (Elt Ideal) arg4.view (Rect.unit (s := S2x6x266x256) ![0, 0, 0, 0] S1x1x266x256.size k0).toLoadRect (harg4.unread x3))⟩]
      = acc T x3 0 := by
  refine two_halves _ _ _ (fun r x => ?_) (fun r x => ?_) []
  all_goals
    rw [halfFirst_apply, acc, Finset.sum_range_one]
  · exact colSums_at _ _ 0 0 _ _ r _ x (by simp) (by decide) (fun k => rowSums_load hT arg9 0 j0 (by decide) r k)
      (fun k => column_read arg4 harg4 x3 0 0 (by decide) (by decide) k0 k x)
  · exact colSums_at _ _ 0 1 _ _ r _ x (by simp) (by decide) (fun k => rowSums_load hT arg9 246 j1 (by decide) r k)
      (fun k => column_read arg4 harg4 x3 1 0 (by decide) (by decide) k1 k x)

/-- The accumulator's two stores at a later column offset. -/
theorem acc_next (T : ℕ → S512x512.Idx → EReal) (b : ℕ) (hb : b + 1 < 6) {H3 : List (View.Piece (Elt Ideal) S512x512 .bf16)}
    (hT : View.canon H3 = T (b + 1)) (arg9 : Memref sig .tc .vmem S512x512 .bf16) (arg7 : Memref sig .tc .vmem S512x512 .f32)
    (arg4 : Memref sig .tc .vmem S2x6x266x256 .bf16) (harg4 : arg4.IsWhole) (x3 : Vec Ideal S2x6x266x256 .bf16)
    {H1 : List (View.Piece (Elt Ideal) S512x512 .f32)} (hA : View.canon H1 = acc T x3 b)
    {i0 i0' : ∀ d, (![0, 0] : Fin 2 → ℕ) d + S512x256.size d ≤ S512x512.size d}
    {i1 i1' : ∀ d, (![0, 256] : Fin 2 → ℕ) d + S512x256.size d ≤ S512x512.size d}
    {j0 : ∀ d, (![0, 0] : Fin 2 → ℕ) d + S512x266.size d ≤ S512x512.size d}
    {j1 : ∀ d, (![0, 246] : Fin 2 → ℕ) d + S512x266.size d ≤ S512x512.size d}
    {k0 : ∀ d, (![0, b + 1, 0, 0] : Fin 4 → ℕ) d + S1x1x266x256.size d ≤ S2x6x266x256.size d}
    {k1 : ∀ d, (![1, b + 1, 0, 0] : Fin 4 → ℕ) d + S1x1x266x256.size d ≤ S2x6x266x256.size d}
    {wL wR : FVec Ideal S512x256 .f32}
    (hL : wL = halfNext (arg7.view.readCov H1 (Rect.unit (s := S512x512) ![0, 0] S512x256.size i0').toLoadRect)
      (arg9.view.readCov H3 (Rect.unit (s := S512x512) ![0, 0] S512x266.size j0).toLoadRect)
      (View.readAt (Elt Ideal) arg4.view (Rect.unit (s := S2x6x266x256) ![0, b + 1, 0, 0] S1x1x266x256.size k0).toLoadRect (harg4.unread x3)))
    (hR : wR = halfNext (arg7.view.readCov (⟨Rect.unit (s := S512x512) ![0, 0] S512x256.size i0, wL⟩ :: H1)
        (Rect.unit (s := S512x512) ![0, 256] S512x256.size i1').toLoadRect)
      (arg9.view.readCov H3 (Rect.unit (s := S512x512) ![0, 246] S512x266.size j1).toLoadRect)
      (View.readAt (Elt Ideal) arg4.view (Rect.unit (s := S2x6x266x256) ![1, b + 1, 0, 0] S1x1x266x256.size k1).toLoadRect (harg4.unread x3))) :
    View.canon (⟨Rect.unit (s := S512x512) ![0, 256] S512x256.size i1, wR⟩ :: ⟨Rect.unit (s := S512x512) ![0, 0] S512x256.size i0, wL⟩ :: H1)
      = acc T x3 (b + 1) := by
  have hs : ∀ y, acc T x3 (b + 1) y = acc T x3 b y + colSums (T (b + 1)) x3 (b + 1) y := fun y => Finset.sum_range_succ _ _
  refine two_halves _ _ _ (fun r x => ?_) (fun r x => ?_) H1
  · rw [hL, halfNext_apply, hs]
    refine congrArg₂ (· + ·) ?_ (colSums_at _ _ (b + 1) 0 _ _ r _ x (by simp) (by decide) (fun k => rowSums_load hT arg9 0 j0 (by decide) r k)
      (fun k => column_read arg4 harg4 x3 0 (b + 1) (by decide) hb k0 k x))
    rw [View.readCov_eq_canon', hA]
    exact congrArg _ (half_emb 0 i0' r x (by decide))
  · rw [hR, halfNext_apply, hs]
    refine congrArg₂ (· + ·) ?_ (colSums_at _ _ (b + 1) 1 _ _ r _ x (by simp) (by decide) (fun k => rowSums_load hT arg9 246 j1 (by decide) r k)
      (fun k => column_read arg4 harg4 x3 1 (b + 1) (by decide) hb k1 k x))
    rw [View.readCov_skip _ _ _ _ _ rfl, View.readCov_eq_canon', hA]
    exact congrArg _ (half_emb 256 i1' r x (by decide))

/-! ## The body's accumulator -/

variable {c : Dev nD} {i : grid0.Coords}
  {arg1 : Memref sig .tc .vmem S3x512x512 .f32} {harg1 : arg1.IsWhole}
  {arg2 : Memref sig .tc .vmem S512x512 .f32} {harg2 : arg2.IsWhole}
  {arg3 : Memref sig .tc .vmem S3x6x128x864 .bf16} {harg3 : arg3.IsWhole}
  {arg4 : Memref sig .tc .vmem S2x6x266x256 .bf16} {harg4 : arg4.IsWhole}
  {arg6 : Memref sig .tc .vmem S6x4x864x512 .bf16}
  {arg7 : Memref sig .tc .vmem S512x512 .f32}
  {arg8 : Memref sig .tc .vmem S3x144x512 .f32}
  {arg9 : Memref sig .tc .vmem S512x512 .bf16}
  {x0 : Vec Ideal S3x512x512 .f32} {x1 : Vec Ideal S512x512 .f32} {x2 : Vec Ideal S3x6x128x864 .bf16} {x3 : Vec Ideal S2x6x266x256 .bf16}

/-- The accumulator after the first column offset. -/
theorem acc_0 : View.canon (HS1_2 c i arg1 harg1 arg2 harg2 arg3 harg3 arg4 harg4 arg6 arg8 arg9 x0 x1 x2 x3)
    = acc (rowSums x0 x1 (slab (tile i)) (bank (tile i)) x2) x3 0 := by
  unfold HS1_2
  exact acc_first _ rowSums_0 arg9 arg4 harg4 x3

/-- The accumulator after column offset 1. -/
theorem acc_1 : View.canon (HS1_4 c i arg1 harg1 arg2 harg2 arg3 harg3 arg4 harg4 arg6 arg7 arg8 arg9 x0 x1 x2 x3)
    = acc (rowSums x0 x1 (slab (tile i)) (bank (tile i)) x2) x3 1 := by
  unfold HS1_4 HS1_3
  exact acc_next _ 0 (by decide) rowSums_1 arg9 arg7 arg4 harg4 x3 acc_0 rfl rfl

/-- The accumulator after column offset 2. -/
theorem acc_2 : View.canon (HS1_6 c i arg1 harg1 arg2 harg2 arg3 harg3 arg4 harg4 arg6 arg7 arg8 arg9 x0 x1 x2 x3)
    = acc (rowSums x0 x1 (slab (tile i)) (bank (tile i)) x2) x3 2 := by
  unfold HS1_6 HS1_5
  exact acc_next _ 1 (by decide) rowSums_2 arg9 arg7 arg4 harg4 x3 acc_1 rfl rfl

/-- The accumulator after column offset 3. -/
theorem acc_3 : View.canon (HS1_8 c i arg1 harg1 arg2 harg2 arg3 harg3 arg4 harg4 arg6 arg7 arg8 arg9 x0 x1 x2 x3)
    = acc (rowSums x0 x1 (slab (tile i)) (bank (tile i)) x2) x3 3 := by
  unfold HS1_8 HS1_7
  exact acc_next _ 2 (by decide) rowSums_3 arg9 arg7 arg4 harg4 x3 acc_2 rfl rfl

/-- The accumulator after column offset 4. -/
theorem acc_4 : View.canon (HS1_10 c i arg1 harg1 arg2 harg2 arg3 harg3 arg4 harg4 arg6 arg7 arg8 arg9 x0 x1 x2 x3)
    = acc (rowSums x0 x1 (slab (tile i)) (bank (tile i)) x2) x3 4 := by
  unfold HS1_10 HS1_9
  exact acc_next _ 3 (by decide) rowSums_4 arg9 arg7 arg4 harg4 x3 acc_3 rfl rfl

/-- The accumulator after column offset 5. -/
theorem acc_5 : View.canon (HS1_12 c i arg1 harg1 arg2 harg2 arg3 harg3 arg4 harg4 arg6 arg7 arg8 arg9 x0 x1 x2 x3)
    = acc (rowSums x0 x1 (slab (tile i)) (bank (tile i)) x2) x3 5 := by
  unfold HS1_12 HS1_11
  exact acc_next _ 4 (by decide) rowSums_5 arg9 arg7 arg4 harg4 x3 acc_4 rfl rfl

end Cert.Blur

end
-- ==== Proof.HostEntry.lean ====
/- WHAT THE HOST HANDS THE REGION: the banded matrices it builds from iotas, and the picture and the defocus. -/
module

public import proofs.«01_k».proof.Proof.Acc
public import Idealize.ShloMosaic.Lib.Claim
public import Idealize.ShloMosaic.Lib.Pointwise

@[expose] public section

noncomputable section

namespace Cert.Blur

open Idealize.ShloMosaic Idealize.ShloMosaic.TcCoe Cert.KernelIdeal Cert.KernelIdeal.Gen

variable (m : (ℓ : Loc nD τ sig) → Buf (Elt Ideal) ℓ) (c : Dev nD)

/-- The region finds the picture, its leading axis of one dropped. -/
theorem image_entry : V m c main_v36 = shapeCast S3x512x512 (m (c, main_arg0)) shapeCasts_S1x3x512x512_S3x512x512 := by
  entry_read
  rfl

/-- The region finds the defocus, its leading axes of one dropped. -/
theorem defocus_entry : V m c main_v37 = shapeCast S512x512 (m (c, main_arg1)) shapeCasts_S1x1x512x512_S512x512 := by
  entry_read
  rfl

/-- The column matrices as the host builds them. -/
def colBand : FVec Ideal S2x6x266x256 .bf16 :=
  truncf .bf16 (select
      (ori (cmpi .eq (iotaInDim S2x6x266x256 32 2)
          (subi (addi (iotaInDim S2x6x266x256 32 3) (muli (broadcastInDim S2x6x266x256 ![] bcast_S_S2x6x266x256 (constantI S_ 32 10#32)) (iotaInDim S2x6x266x256 32 0)))
            (iotaInDim S2x6x266x256 32 1)))
        (cmpi .eq (iotaInDim S2x6x266x256 32 2)
          (addi (addi (iotaInDim S2x6x266x256 32 3) (muli (broadcastInDim S2x6x266x256 ![] bcast_S_S2x6x266x256 (constantI S_ 32 10#32)) (iotaInDim S2x6x266x256 32 0)))
            (iotaInDim S2x6x266x256 32 1))))
      (broadcastInDim S2x6x266x256 ![] bcast_S_S2x6x266x256 (constant (F := Ideal) S_ .f32 0x3F800000#32))
      (broadcastInDim S2x6x266x256 ![] bcast_S_S2x6x266x256 (constant (F := Ideal) S_ .f32 0x00000000#32))) bitsLt_bf16_f32

/-- The region finds the column matrices in their buffer. -/
theorem bandC_entry : V m c main_v35 = colBand := by
  rfl

/-- A tile row's place in the slab: `j + 8 v`. -/
def bandRow : IVec S3x6x128x6x144 32 :=
  addi (iotaInDim S3x6x128x6x144 32 2) (muli (broadcastInDim S3x6x128x6x144 ![] bcast_S_S3x6x128x6x144 (constantI S_ 32 8#32)) (iotaInDim S3x6x128x6x144 32 0))

/-- The row matrices as the host builds them. -/
def rowBand5 : FVec Ideal S3x6x128x6x144 .f32 :=
  select
      (andi (cmpi .sle (addi (muli (iotaInDim S3x6x128x6x144 32 3) (iotaInDim S3x6x128x6x144 32 3)) (muli (iotaInDim S3x6x128x6x144 32 1) (iotaInDim S3x6x128x6x144 32 1)))
          (broadcastInDim S3x6x128x6x144 ![] bcast_S_S3x6x128x6x144 (constantI S_ 32 25#32)))
        (ori (cmpi .eq (iotaInDim S3x6x128x6x144 32 4) (subi bandRow (iotaInDim S3x6x128x6x144 32 3)))
          (cmpi .eq (iotaInDim S3x6x128x6x144 32 4) (addi bandRow (iotaInDim S3x6x128x6x144 32 3)))))
      (broadcastInDim S3x6x128x6x144 ![] bcast_S_S3x6x128x6x144 (constant (F := Ideal) S_ .f32 0x3F800000#32))
      (broadcastInDim S3x6x128x6x144 ![] bcast_S_S3x6x128x6x144 (constant (F := Ideal) S_ .f32 0x00000000#32))

/-- … with the row offset and the slab row as one axis. -/
def rowBand : FVec Ideal S3x6x128x864 .bf16 :=
  truncf .bf16 (shapeCast S3x6x128x864 rowBand5 shapeCasts_S3x6x128x6x144_S3x6x128x864) bitsLt_bf16_f32

/-- The region finds the row matrices in theirs. -/
theorem bandS_entry : V m c main_v34 = rowBand := by
  rfl

end Cert.Blur

end
-- ==== Proof.HostBands.lean ====
/- THE BANDED MATRICES' ENTRIES: one where a slab row or column is the wanted one, zero elsewhere. -/
module

public import proofs.«01_k».proof.Proof.HostEntry

@[expose] public section

noncomputable section

namespace Cert.Blur

open Idealize.ShloMosaic Idealize.ShloMosaic.TcCoe Cert.KernelIdeal Cert.KernelIdeal.Gen

/-- Either of two comparisons of words. -/
theorem or_eq_one (a b : Bool) : BitVec.ofBool a ||| BitVec.ofBool b = 1 ↔ (a = true ∨ b = true) := by
  cases a <;> cases b <;> decide

/-- A comparison of words together with either of two others. -/
theorem and_or_eq_one (a b c : Bool) : BitVec.ofBool a &&& (BitVec.ofBool b ||| BitVec.ofBool c) = 1 ↔ (a = true ∧ (b = true ∨ c = true)) := by
  cases a <;> cases b <;> cases c <;> decide

/-- A small word is a difference of small words exactly when the sum is what it should be. -/
theorem word_eq_sub (k x b : ℕ) (hk : k < 1000) (hx : x < 1000) (hb : b < 1000) (X : BitVec 32) (hX : X.toNat = x) :
    (BitVec.ofNat 32 k == X - BitVec.ofNat 32 b) = true ↔ k + b = x := by
  rw [beq_iff_eq, ← BitVec.toNat_inj, BitVec.toNat_sub, BitVec.toNat_ofNat, BitVec.toNat_ofNat, hX]
  omega

/-- A small word is a sum of small words exactly when the numbers are. -/
theorem word_eq_add (k x b : ℕ) (hk : k < 1000) (hx : x < 1000) (hb : b < 1000) (X : BitVec 32) (hX : X.toNat = x) :
    (BitVec.ofNat 32 k == X + BitVec.ofNat 32 b) = true ↔ k = x + b := by
  rw [beq_iff_eq, ← BitVec.toNat_inj, BitVec.toNat_add, BitVec.toNat_ofNat, BitVec.toNat_ofNat, hX]
  omega

/-- A small multiple added to a small word. -/
theorem word_shift (x n t : ℕ) (hx : x < 1000) (hn : n < 20) (ht : t < 20) :
    (BitVec.ofNat 32 x + BitVec.ofNat 32 n * BitVec.ofNat 32 t).toNat = x + n * t := by
  have : n * t < 400 := by nlinarith
  rw [BitVec.toNat_add, BitVec.toNat_mul, BitVec.toNat_ofNat, BitVec.toNat_ofNat, BitVec.toNat_ofNat,
    Nat.mod_eq_of_lt (show n < 2 ^ 32 by omega), Nat.mod_eq_of_lt (show t < 2 ^ 32 by omega)]
  omega

/-- The disc test on small words. -/
theorem word_disc : ∀ a b : Fin 6, ((BitVec.ofNat 32 a.val * BitVec.ofNat 32 a.val + BitVec.ofNat 32 b.val * BitVec.ofNat 32 b.val).sle 25#32 = true
    ↔ a.val * a.val + b.val * b.val ≤ 25) := by
  decide

/-- An entry of the column matrices: one at the columns `b` left and right of `x`, in the half's numbering. -/
theorem colBand_at (t b k x : ℕ) (ht : t < 2) (hb : b < 6) (hk : k < 266) (hx : x < 256) :
    colBand (atC t b k x) = if k + b = x + 10 * t ∨ k = x + 10 * t + b then 1 else 0 := by
  have e : atC t b k x = ix4 (⟨t, ht⟩ : Fin 2) (⟨b, hb⟩ : Fin 6) (⟨k, hk⟩ : Fin 266) (⟨x, hx⟩ : Fin 256) := by
    unfold atC
    congr 1 <;> exact Fin.ext (Nat.mod_eq_of_lt (by assumption))
  rw [e]
  unfold colBand
  pointwise
  have hX := word_shift x 10 t (by omega) (by omega) (by omega)
  show (if BitVec.ofBool (BitVec.ofNat 32 k == BitVec.ofNat 32 x + BitVec.ofNat 32 10 * BitVec.ofNat 32 t - BitVec.ofNat 32 b)
      ||| BitVec.ofBool (BitVec.ofNat 32 k == BitVec.ofNat 32 x + BitVec.ofNat 32 10 * BitVec.ofNat 32 t + BitVec.ofNat 32 b) = 1
    then (1 : EReal) else 0) = _
  simp only [or_eq_one, word_eq_sub k _ b (by omega) (by omega) (by omega) _ hX, word_eq_add k _ b (by omega) (by omega) (by omega) _ hX]

/-- An entry of the row matrices: one at the rows `a = k / 144` above and below tile row `j`, in the slab's numbering,
    for the offsets inside the disc. -/
theorem rowBand_at (v b j k : ℕ) (hv : v < 3) (hb : b < 6) (hj : j < 128) (hk : k < 864) :
    rowBand (atS v b j k) = if k / 144 * (k / 144) + b * b ≤ 25 ∧ (k % 144 + k / 144 = j + 8 * v ∨ k % 144 = j + 8 * v + k / 144) then 1 else 0 := by
  have e : atS v b j k = ix4 (⟨v, hv⟩ : Fin 3) (⟨b, hb⟩ : Fin 6) (⟨j, hj⟩ : Fin 128) (⟨k, hk⟩ : Fin 864) := by
    unfold atS
    congr 1 <;> exact Fin.ext (Nat.mod_eq_of_lt (by assumption))
  rw [e]
  unfold rowBand rowBand5 bandRow
  pointwise
  have hX := word_shift j 8 v (by omega) (by omega) (by omega)
  have hD := word_disc ⟨k / 144, by omega⟩ ⟨b, hb⟩
  show (if BitVec.ofBool ((BitVec.ofNat 32 (k / 144) * BitVec.ofNat 32 (k / 144) + BitVec.ofNat 32 b * BitVec.ofNat 32 b).sle 25#32)
      &&& (BitVec.ofBool (BitVec.ofNat 32 (k % 144) == BitVec.ofNat 32 j + BitVec.ofNat 32 8 * BitVec.ofNat 32 v - BitVec.ofNat 32 (k / 144))
        ||| BitVec.ofBool (BitVec.ofNat 32 (k % 144) == BitVec.ofNat 32 j + BitVec.ofNat 32 8 * BitVec.ofNat 32 v + BitVec.ofNat 32 (k / 144))) = 1
    then (1 : EReal) else 0) = _
  dsimp only at hD
  simp only [and_or_eq_one, hD, word_eq_sub (k % 144) _ (k / 144) (by omega) (by omega) (by omega) _ hX,
    word_eq_add (k % 144) _ (k / 144) (by omega) (by omega) (by omega) _ hX]

end Cert.Blur

end
-- ==== Proof.Block.lean ====
/- THE BLOCK one grid point leaves: each colour's accumulated spread times the reciprocal of the weights'. -/
module

public import proofs.«01_k».proof.Proof.Acc

@[expose] public section

noncomputable section

namespace Cert.Blur

open Idealize.ShloMosaic Idealize.ShloMosaic.TcCoe Cert.KernelIdeal Cert.KernelIdeal.Gen Cert.KernelIdeal.Gen.kernelRun0_A.sl

/-- A colour's store: its accumulated spread times the reciprocal of the weights'. -/
def quot (w a : FVec Ideal S128x512 .f32) : FVec Ideal S1x128x512 .f32 :=
  shapeCast S1x128x512 (mulf a (divf (broadcast S128x512 (Scalar.ofBits .f32 0x3F800000#32)) w)) shapeCasts_S128x512_S1x128x512

/-- Its entries. -/
theorem quot_apply (w a : FVec Ideal S128x512 .f32) (j : Fin 128) (x : Fin 512) :
    quot w a (ix3 0 j x) = a (ix2 j x) * Ideal.div 1 (w (ix2 j x)) := by
  unfold quot
  pointwise

/-- A finished accumulator `A`, quarter `k + 1` times the reciprocal of quarter 0. -/
def finish (A : S512x512.Idx → EReal) : S3x128x512.Idx → EReal := fun y =>
  A (ix2 (Fin.ofNat 512 (128 * ((y 0).val + 1) + (y 1).val)) (y 2)) * Ideal.div 1 (A (ix2 (Fin.ofNat 512 (y 1).val) (y 2)))

/-- A load of one quarter of the accumulator. -/
theorem quarter_load {A : S512x512.Idx → EReal} {L : List (View.Piece (Elt Ideal) S512x512 .f32)} (hA : View.canon L = A)
    (arg7 : Memref sig .tc .vmem S512x512 .f32) (o : ℕ)
    (inb : ∀ d, (![o, 0] : Fin 2 → ℕ) d + S128x512.size d ≤ S512x512.size d) (h : o + 128 ≤ 512) (j : Fin 128) (x : Fin 512) :
    arg7.view.readCov L (Rect.unit (s := S512x512) ![o, 0] S128x512.size inb).toLoadRect (ix2 j x)
      = A (ix2 (Fin.ofNat 512 (o + j.val)) x) := by
  rw [View.readCov_eq_canon', hA]
  refine congrArg A (funext fun d => Fin.ext ?_)
  rw [LoadRect.idx_apply]
  fin_cases d
  · show o + 1 * j.val = (o + j.val) % 512; omega
  · show 0 + 1 * x.val = x.val; omega

/-- A store of colour `k` is a block of `finish`. -/
theorem quot_block {A : S512x512.Idx → EReal} (k : ℕ) (hk : k < 3) {w a : FVec Ideal S128x512 .f32}
    (hw : ∀ (j : Fin 128) (x : Fin 512), w (ix2 j x) = A (ix2 (Fin.ofNat 512 (0 + j.val)) x))
    (ha : ∀ (j : Fin 128) (x : Fin 512), a (ix2 j x) = A (ix2 (Fin.ofNat 512 (128 * (k + 1) + j.val)) x))
    (inb : ∀ d, (![k, 0, 0] : Fin 3 → ℕ) d + S1x128x512.size d ≤ S3x128x512.size d) (z : S1x128x512.Idx) :
    quot w a z = finish A ((Rect.unit (s := S3x128x512) ![k, 0, 0] S1x128x512.size inb).emb z) := by
  obtain ⟨u, j, x, rfl⟩ : ∃ (u : Fin 1) (j : Fin 128) (x : Fin 512), z = ix3 u j x := ⟨z 0, z 1, z 2, by funext d; fin_cases d <;> rfl⟩
  obtain rfl : u = 0 := Subsingleton.elim _ _
  have e : (Rect.unit (s := S3x128x512) ![k, 0, 0] S1x128x512.size inb).emb (ix3 0 j x) = ix3 (⟨k, hk⟩ : Fin 3) j x := by
    funext d
    apply Fin.ext
    rw [Rect.emb_apply]
    fin_cases d
    · show k + 1 * 0 = k; omega
    · show 0 + 1 * j.val = j.val; omega
    · show 0 + 1 * x.val = x.val; omega
  rw [e, quot_apply, hw, ha, Nat.zero_add]
  rfl

/-- What the body leaves in the result's block. -/
theorem block_eq (c : Dev nD) (i : grid0.Coords)
    (arg1 : Memref sig .tc .vmem S3x512x512 .f32) (harg1 : arg1.IsWhole) (arg2 : Memref sig .tc .vmem S512x512 .f32) (harg2 : arg2.IsWhole)
    (arg3 : Memref sig .tc .vmem S3x6x128x864 .bf16) (harg3 : arg3.IsWhole) (arg4 : Memref sig .tc .vmem S2x6x266x256 .bf16) (harg4 : arg4.IsWhole)
    (arg5 : Memref sig .tc .vmem S3x128x512 .f32) (harg5 : arg5.IsWhole) (arg6 : Memref sig .tc .vmem S6x4x864x512 .bf16) (harg6 : arg6.IsWhole)
    (arg7 : Memref sig .tc .vmem S512x512 .f32) (harg7 : arg7.IsWhole) (arg8 : Memref sig .tc .vmem S3x144x512 .f32) (harg8 : arg8.IsWhole)
    (arg9 : Memref sig .tc .vmem S512x512 .bf16) (harg9 : arg9.IsWhole)
    (x0 : Vec Ideal S3x512x512 .f32) (x1 : Vec Ideal S512x512 .f32) (x2 : Vec Ideal S3x6x128x864 .bf16) (x3 : Vec Ideal S2x6x266x256 .bf16) :
    out0_A_4 c i arg1 harg1 arg2 harg2 arg3 harg3 arg4 harg4 arg5 harg5 arg6 harg6 arg7 harg7 arg8 harg8 arg9 harg9 x0 x1 x2 x3
      = finish (acc (rowSums x0 x1 (slab (tile i)) (bank (tile i)) x2) x3 5) := by
  unfold out0_A_4
  rw [View.read_writes_junk_eq_canon]
  funext y
  refine View.canon_apply_of_pieces _ _ (View.PiecesOf.mem ?_) y (cover0_A_4 c i arg1 harg1 arg2 harg2 arg3 harg3 arg4 harg4 arg5 harg5 arg6 harg6 arg7 harg7 arg8 harg8 arg9 harg9 x0 x1 x2 x3 y)
  unfold kernelRun0_A
  dsimp only
  have h0 := fun (inb) (j : Fin 128) (x : Fin 512) => quarter_load (acc_5 (c := c) (i := i) (arg1 := arg1) (harg1 := harg1) (arg2 := arg2) (harg2 := harg2)
    (arg3 := arg3) (harg3 := harg3) (arg4 := arg4) (harg4 := harg4) (arg6 := arg6) (arg7 := arg7) (arg8 := arg8) (arg9 := arg9) (x0 := x0) (x1 := x1) (x2 := x2) (x3 := x3)) arg7 0 inb (by decide) j x
  have hk := fun (o : ℕ) (ho : o + 128 ≤ 512) (inb) (j : Fin 128) (x : Fin 512) => quarter_load (acc_5 (c := c) (i := i) (arg1 := arg1) (harg1 := harg1) (arg2 := arg2) (harg2 := harg2)
    (arg3 := arg3) (harg3 := harg3) (arg4 := arg4) (harg4 := harg4) (arg6 := arg6) (arg7 := arg7) (arg8 := arg8) (arg9 := arg9) (x0 := x0) (x1 := x1) (x2 := x2) (x3 := x3)) arg7 o inb ho j x
  exact ⟨quot_block 2 (by decide) (h0 (by decide)) (hk 384 (by decide) (by decide)) (by decide), quot_block 1 (by decide) (h0 (by decide)) (hk 256 (by decide) (by decide)) (by decide),
    quot_block 0 (by decide) (h0 (by decide)) (hk 128 (by decide) (by decide)) (by decide), trivial⟩

end Cert.Blur

end
-- ==== Proof.Bands.lean ====
/- WHAT THE BANDED MATRICES DO, as sums over the extended reals: a row of a band picks out the two entries at a distance,
   so the row sums are the row parts of the spread, the column sums add the two columns at each offset, and the finished
   accumulator is the spread of every plane over the tile. -/
module

public import proofs.«01_k».proof.Proof.HostBands
public import proofs.«01_k».proof.Proof.Block

@[expose] public section

noncomputable section

namespace Cert.Blur

open Idealize.ShloMosaic Cert.KernelIdeal

/-- A sum against a band: the one or two entries it picks, an entry outside the range being nothing. -/
theorem band_sum (n a : ℕ) (x : ℕ) (e : ℕ → EReal) (g : ℤ → EReal)
    (hg : ∀ z : ℤ, (z = (x : ℤ) - a ∨ z = x + a) → g z = if 0 ≤ z ∧ z < n then e z.toNat else 0) :
    ∑ k ∈ Finset.range n, (if k + a = x ∨ k = x + a then (1 : EReal) else 0) * e k = mirror a g x := by
  have point : ∀ z : ℤ, ∑ k ∈ Finset.range n, (if (k : ℤ) = z then (1 : EReal) else 0) * e k = if 0 ≤ z ∧ z < n then e z.toNat else 0 := by
    intro z
    by_cases h : 0 ≤ z ∧ z < n
    · rw [if_pos h, Finset.sum_eq_single z.toNat]
      · rw [if_pos (by omega), one_mul]
      · intro k _ hk; rw [if_neg (by omega), zero_mul]
      · intro hk; exact absurd (Finset.mem_range.mpr (by omega)) hk
    · rw [if_neg h]
      refine Finset.sum_eq_zero fun k hk => ?_
      have := Finset.mem_range.mp hk
      rw [if_neg (by omega), zero_mul]
  unfold mirror
  by_cases ha : a = 0
  · subst ha
    rw [if_pos rfl, hg x (Or.inr (by simp)), ← point]
    refine Finset.sum_congr rfl fun k _ => ?_
    congr 1
    exact if_congr (by omega) rfl rfl
  · rw [if_neg ha, hg _ (Or.inl rfl), hg _ (Or.inr rfl), ← point, ← point, ← Finset.sum_add_distrib]
    refine Finset.sum_congr rfl fun k _ => ?_
    by_cases h1 : k + a = x
    · rw [if_pos (Or.inl h1), if_pos (show (k : ℤ) = x - a by omega), if_neg (show ¬ (k : ℤ) = x + a by omega), zero_mul, add_zero]
    · by_cases h2 : k = x + a
      · rw [if_pos (Or.inr h2), if_neg (show ¬ (k : ℤ) = x - a by omega), if_pos (show (k : ℤ) = x + a by omega), zero_mul, zero_add]
      · rw [if_neg (by omega), if_neg (show ¬ (k : ℤ) = x - a by omega), if_neg (show ¬ (k : ℤ) = x + a by omega), zero_mul, add_zero]

/-- A sum over `144 n` is the sum over `n` offsets of the sums over their 144 rows. -/
theorem sum_slabs (n : ℕ) (f : ℕ → EReal) :
    ∑ k ∈ Finset.range (144 * n), f k = ∑ a ∈ Finset.range n, ∑ t ∈ Finset.range 144, f (144 * a + t) := by
  induction n with
  | zero => simp
  | succ n ih => rw [Nat.mul_succ, Finset.sum_range_add, ih, Finset.sum_range_succ _ n]

/-- The offsets that go with a column offset lie in the disc. -/
theorem rows_disc : ∀ b : Fin 6, ∀ a : Fin 6, a.val < rows b.val → a.val * a.val + b.val * b.val ≤ 25 := by decide

theorem rows_le : ∀ b : Fin 6, rows b.val ≤ 6 := by decide

/-- THE ROW SUMS of a tile are the row parts of the spread of each plane. -/
theorem rowSums_eq (img : Pic.Idx → EReal) (dfc : Pln.Idx → EReal) (t : Fin 4) (b : ℕ) (hb : b < 6) (p j : ℕ) (hj : j < 128)
    (R X : Fin 512) (hR : R.val = 128 * p + j) :
    rowSums img dfc (slab t) (bank t) rowBand b (ix2 R X)
      = rowPart (fun n => guard (plane img dfc p n)) b ((128 * t.val + j : ℕ) : ℤ) ((X.val : ℕ) : ℤ) := by
  have hbank := (slab_reach t).2.2
  have hsl := slab_add_bank t
  have hr := rows_le ⟨b, hb⟩
  have h512 := slab_le t
  show ∑ k ∈ Finset.range (144 * rows b), rowBand (atS (bank t) b (R.val % 128) k)
    * plane img dfc (R.val / 128) (k / 144 * (k / 144) + b * b) (slab t + k % 144) X.val = _
  rw [show R.val % 128 = j by omega, show R.val / 128 = p by omega, sum_slabs]
  unfold rowPart
  refine Finset.sum_congr rfl fun a ha => ?_
  have ha := Finset.mem_range.mp ha
  dsimp only at hr
  have hd := rows_disc ⟨b, hb⟩ ⟨a, by omega⟩ ha
  dsimp only at hd
  have key := band_sum 144 a (j + 8 * bank t) (fun s => plane img dfc p (a * a + b * b) (slab t + s) X.val)
    (fun z => guard (plane img dfc p (a * a + b * b)) (z + slab t) X.val) (by
      intro z hz
      unfold guard
      have hX := X.isLt
      obtain ⟨h1, h2, -⟩ := slab_reach t
      by_cases hin : 0 ≤ z ∧ z < (144 : ℕ)
      · rw [if_pos hin, if_pos (by omega)]
        congr 1; omega
      · rw [if_neg hin, if_neg]
        have : t.val < 4 := t.isLt
        rcases h1 with h1 | h1 <;> rcases h2 with h2 | h2 <;> rcases hz with hz | hz <;> omega)
  have key2 : mirror a (fun z => guard (plane img dfc p (a * a + b * b)) (z + slab t) X.val) ((j + 8 * bank t : ℕ) : ℤ)
      = mirror a (fun y => guard (plane img dfc p (a * a + b * b)) y X.val) ((128 * t.val + j : ℕ) : ℤ) := by
    have e : ((128 * t.val + j : ℕ) : ℤ) = ((j + 8 * bank t : ℕ) : ℤ) + slab t := by omega
    rw [e]
    unfold mirror
    by_cases h0 : a = 0
    · rw [if_pos h0, if_pos h0]
    · rw [if_neg h0, if_neg h0]
      dsimp only
      congr 2 <;> omega
  rw [← key2, ← key]
  refine Finset.sum_congr rfl fun s hs => ?_
  have hs := Finset.mem_range.mp hs
  rw [rowBand_at _ _ _ _ (by omega) hb hj (by omega), show (144 * a + s) / 144 = a by omega, show (144 * a + s) % 144 = s by omega]
  congr 1
  exact if_congr (by rw [and_iff_right hd]) rfl rfl

/-- THE COLUMN SUMS add, at each place, the two columns at distance `b`. -/
theorem colSums_eq (T : S512x512.Idx → EReal) (b : ℕ) (hb : b < 6) (R X : Fin 512) (g : ℤ → EReal)
    (hin : ∀ z : Fin 512, g z.val = T (ix2 R z)) (hout : ∀ z : ℤ, ¬ (0 ≤ z ∧ z < 512) → g z = 0) :
    colSums T colBand b (ix2 R X) = mirror b g X.val := by
  have hX := X.isLt
  show ∑ k ∈ Finset.range 266, T (ix2 R (Fin.ofNat 512 (246 * (X.val / 256) + k))) * colBand (atC (X.val / 256) b k (X.val % 256)) = _
  set h := X.val / 256 with hh
  have key := band_sum 266 b (X.val % 256 + 10 * h) (fun k => T (ix2 R (Fin.ofNat 512 (246 * h + k)))) (fun z => g (z + 246 * h)) (by
    intro z hz
    by_cases hi : 0 ≤ z ∧ z < (266 : ℕ)
    · rw [if_pos hi, ← hin]
      congr 1
      show z + 246 * (h : ℤ) = (((246 * h + z.toNat) % 512 : ℕ) : ℤ)
      omega
    · rw [if_neg hi]
      exact hout _ (by omega))
  have key2 : mirror b (fun z => g (z + 246 * h)) ((X.val % 256 + 10 * h : ℕ) : ℤ) = mirror b g X.val := by
    have e : ((X.val : ℕ) : ℤ) = ((X.val % 256 + 10 * h : ℕ) : ℤ) + 246 * h := by omega
    rw [e]
    unfold mirror
    by_cases h0 : b = 0
    · rw [if_pos h0, if_pos h0]
    · rw [if_neg h0, if_neg h0]
      dsimp only
      congr 2 <;> omega
  rw [← key2, ← key]
  refine Finset.sum_congr rfl fun k hk => ?_
  have hk := Finset.mem_range.mp hk
  rw [colBand_at _ _ _ _ (by omega) hb hk (by omega), mul_comm]

/-- Outside the picture's columns a guarded plane's row part is nothing. -/
theorem rowPart_out (f : ℕ → ℕ → ℕ → EReal) (b : ℕ) (r z : ℤ) (hz : ¬ (0 ≤ z ∧ z < 512)) :
    rowPart (fun n => guard (f n)) b r z = 0 := by
  have h : ∀ (n : ℕ) (y : ℤ), guard (f n) y z = 0 := fun n y => if_neg fun h => hz h.2
  unfold rowPart mirror
  simp only [h, add_zero, ite_self, Finset.sum_const_zero]

/-- THE ACCUMULATOR of a tile holds each plane's spread over the tile's rows. -/
theorem acc_eq (img : Pic.Idx → EReal) (dfc : Pln.Idx → EReal) (t : Fin 4) (p j : ℕ) (hj : j < 128)
    (R X : Fin 512) (hR : R.val = 128 * p + j) :
    acc (rowSums img dfc (slab t) (bank t) rowBand) colBand 5 (ix2 R X) = total img dfc p ((128 * t.val + j : ℕ) : ℤ) ((X.val : ℕ) : ℤ) := by
  unfold acc total spread
  refine Finset.sum_congr rfl fun b hb => ?_
  have hb := Finset.mem_range.mp hb
  exact colSums_eq _ b hb R X _ (fun z => (rowSums_eq img dfc t b hb p j hj R z hR).symm) (fun z hz => rowPart_out _ b _ z hz)

/-- THE TILE: what a grid point leaves is the blurred picture over its rows. -/
theorem finish_eq (img : Pic.Idx → EReal) (dfc : Pln.Idx → EReal) (t : Fin 4) (ch : Fin 3) (j : Fin 128) (X R : Fin 512)
    (hR : R.val = 128 * t.val + j.val) :
    finish (acc (rowSums img dfc (slab t) (bank t) rowBand) colBand 5) (ix3 ch j X) = blurred img dfc (ix3 ch R X) := by
  have hj := j.isLt
  have hc := ch.isLt
  show acc _ colBand 5 (ix2 (Fin.ofNat 512 (128 * (ch.val + 1) + j.val)) X)
    * Ideal.div 1 (acc _ colBand 5 (ix2 (Fin.ofNat 512 j.val) X)) = total img dfc (ch.val + 1) R.val X.val * Ideal.div 1 (total img dfc 0 R.val X.val)
  rw [acc_eq img dfc t (ch.val + 1) j.val hj _ X (Nat.mod_eq_of_lt (by omega)),
    acc_eq img dfc t 0 j.val hj _ X (by show j.val % 512 = _; omega), hR]

end Cert.Blur

end
-- ==== Proof.KernelValue.lean ====
/- THE KERNEL'S RESULT: its run ends with the blurred picture in the result's array. -/
module

public import proofs.«01_k».proof.Proof.Bands
public import proofs.«01_k».proof.Proof.Gen.KernelIdeal.Value
public import Idealize.ShloMosaic.Lib.Pipeline.ValueKit

@[expose] public section

noncomputable section

namespace Cert.Blur

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The picture a core is given. -/
def pic : Pic.Idx → EReal := shapeCast S3x512x512 (m (c, main_arg0)) shapeCasts_S1x3x512x512_S3x512x512

/-- The defocus a core is given. -/
def dfc : Pln.Idx → EReal := shapeCast S512x512 (m (c, main_arg1)) shapeCasts_S1x1x512x512_S512x512

/-- The block of the picture is the whole array at every grid point. -/
theorem idx_0 : ∀ (t : Fin grid0.N) (a : Fin 3), win0_0.index t a = 0 := by decide +kernel

/-- The block of the defocus is the whole array at every grid point. -/
theorem idx_1 : ∀ (t : Fin grid0.N) (a : Fin 2), win0_1.index t a = 0 := by decide +kernel

/-- The block of the row matrices is the whole array at every grid point. -/
theorem idx_2 : ∀ (t : Fin grid0.N) (a : Fin 4), win0_2.index t a = 0 := by decide +kernel

/-- The block of the column matrices is the whole array at every grid point. -/
theorem idx_3 : ∀ (t : Fin grid0.N) (a : Fin 4), win0_3.index t a = 0 := by decide +kernel

/-- The result's blocks lie one under another. -/
theorem idx_4 : ∀ (t : Fin grid0.N), win0_4.index t 0 = 0 ∧ win0_4.index t 1 = t.val ∧ win0_4.index t 2 = 0 := by decide +kernel

/-- Grid point `t` computes tile `t`. -/
theorem tile_coords : ∀ t : Fin grid0.N, (tile (grid0.coords t)).val = t.val := by decide +kernel

/-- Every grid point sees the whole picture. -/
theorem iblk_0 (t : Fin cfg0.N) : iblk m c 0 t = pic m c := by
  funext z
  refine Eq.trans ?_ (congrFun (image_entry m c) z)
  blk_ext [iblk, idx_0]

/-- Every grid point sees the whole defocus. -/
theorem iblk_1 (t : Fin cfg0.N) : iblk m c 1 t = dfc m c := by
  funext z
  refine Eq.trans ?_ (congrFun (defocus_entry m c) z)
  blk_ext [iblk, idx_1]

/-- Every grid point sees all the row matrices. -/
theorem iblk_2 (t : Fin cfg0.N) : iblk m c 2 t = rowBand := by
  funext z
  refine Eq.trans ?_ (congrFun (bandS_entry m c) z)
  blk_ext [iblk, idx_2]

/-- Every grid point sees all the column matrices. -/
theorem iblk_3 (t : Fin cfg0.N) : iblk m c 3 t = colBand := by
  funext z
  refine Eq.trans ?_ (congrFun (bandC_entry m c) z)
  blk_ext [iblk, idx_3]

/-- The result's array after the run. -/
theorem arr_eq : (dats m 0 c).arrAt 4 cfg0.N = blurred (pic m c) (dfc m c) := by
  refine (dats m 0 c).arrAt_eq_of_covers 4 _ (by decide +kernel) fun t hf y => ?_
  blk_simp
  rw [after0_4]
  unfold outsAt0
  rw [block_eq, iblk_0, iblk_1, iblk_2, iblk_3]
  obtain ⟨ch, j, X, rfl⟩ : ∃ (ch : Fin 3) (j : Fin 128) (X : Fin 512), y = ix3 ch j X :=
    ⟨y 0, y 1, y 2, by funext d; fin_cases d <;> rfl⟩
  have ht : t.val < 4 := t.isLt
  obtain ⟨h0, h1, h2⟩ := idx_4 t
  have hR : 128 * t.val + j.val < 512 := by omega
  have e : (win0_4.blk t).view.emb (ix3 ch j X) = ix3 ch (⟨128 * t.val + j.val, hR⟩ : Fin 512) X := by
    blk_ext [h0, h1, h2]
  refine Eq.trans (finish_eq (pic m c) (dfc m c) (tile (grid0.coords t)) ch j X ⟨128 * t.val + j.val, hR⟩ ?_) (congrArg _ e.symm)
  show 128 * t.val + j.val = _
  rw [tile_coords t]

/-- THE KERNEL'S RUN: every core ends with its picture blurred, and its arguments as they were. -/
theorem kernel_run : θ_run defs (onTc (τ := τ) (main (F := Ideal))) ⟨m, fun _ => 0, ρ⟩ fun r => ∀ c : Dev nD,
      r.2.mem ((c : Thread nD τ).loc main_v38) = blurred (pic m c) (dfc m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (arr_eq m c), (h c).2⟩) (Value.run_blocks m ρ)

end Cert.Blur

end
-- ==== Proof.RefTrip.lean ====
/- ONE TRIP OF THE REFERENCE'S LOOP: the weight it makes at each pixel, and the shifted planes it adds. -/
module

public import proofs.«01_k».proof.Proof.Spec
public import proofs.«01_k».proof.Proof.Gen.ReferenceIdeal.StepRun
public import Idealize.ShloMosaic.Lib.Pointwise
public import Idealize.ShloMosaic.Lib.KernelVsHost
public import Idealize.ShloMosaic.Lib.DynamicIndex

@[expose] public section

noncomputable section

namespace Cert.Blur

open Idealize.ShloMosaic Cert.ReferenceIdeal Cert.ReferenceIdeal.Gen Cert.ReferenceIdeal.Step

/-- The squared length of trip `k`'s offset. -/
def sq (k : ℕ) : ℕ := (((k / 11 : ℕ) - 5 : ℤ) * ((k / 11 : ℕ) - 5 : ℤ) + ((k % 11 : ℕ) - 5 : ℤ) * ((k % 11 : ℕ) - 5 : ℤ)).toNat

/-- The weight the reference gives at squared distance `n`. -/
def refWeight (δ : EReal) (n : ℕ) : EReal :=
  Ideal.div (((1 / 2 : ℝ) : EReal) + ((1 / 2 : ℝ) : EReal) * Ideal.tanh (((4 : ℝ) : EReal) * (mag δ - ((Real.sqrt n : ℝ) : EReal))))
    (mag δ * mag δ + ((eps : ℝ) : EReal)) * (if ((Real.sqrt n : ℝ) : EReal) ≤ reach δ then 1 else 0)

/-- The reference's plane `p` at squared distance `n`. -/
def refPlane (img : Pic.Idx → EReal) (dfc : Pln.Idx → EReal) (p n r x : ℕ) : EReal :=
  match p with
  | 0 => refWeight (dfc (at2 r x)) n
  | c + 1 => refWeight (dfc (at2 r x)) n * img (at3 c r x)

/-- The words of trip `k`'s offset: its squared length. -/
theorem word_sq : ∀ k : Fin 121, (IntOp.addi
    (IntOp.muli (IntOp.subi (IntOp.divsi .host (BitVec.ofNat 32 k.val) 11#32) 5#32) (IntOp.subi (IntOp.divsi .host (BitVec.ofNat 32 k.val) 11#32) 5#32))
    (IntOp.muli (IntOp.subi (IntOp.remsi .host (BitVec.ofNat 32 k.val) 11#32) 5#32) (IntOp.subi (IntOp.remsi .host (BitVec.ofNat 32 k.val) 11#32) 5#32))).toInt
      = ((sq k.val : ℕ) : ℤ) := by
  decide +kernel

variable (a0 : (⟨S1x3x512x512, .f32⟩ : BufTy).Contents (Elt Ideal)) (a1 : (⟨S1x1x512x512, .f32⟩ : BufTy).Contents (Elt Ideal))

/-- The states of the loop. -/
def states : ℕ → State Ideal
  | 0 => init a0 a1
  | n + 1 => step n (states n)

theorem states_0 (n : ℕ) : (states a0 a1 n).main_v9_0 = A_main_v2 a0 a1 := by
  induction n with
  | zero => rfl
  | succ n ih => exact ih
theorem states_1 (n : ℕ) : (states a0 a1 n).main_v9_1 = A_main_v3 a0 a1 := by
  induction n with
  | zero => rfl
  | succ n ih => exact ih
theorem states_2 (n : ℕ) : (states a0 a1 n).main_v9_2 = A_main_v6 a0 a1 := by
  induction n with
  | zero => rfl
  | succ n ih => exact ih
theorem states_3 (n : ℕ) : (states a0 a1 n).main_v9_3 = A_main_v0 a0 a1 := by
  induction n with
  | zero => rfl
  | succ n ih => exact ih

/-- The distance of trip `k`. -/
theorem b14_at (k : ℕ) (hk : k < 121) (s : State Ideal) : b14 k s ix0 = ((Real.sqrt (sq k) : ℝ) : EReal) := by
  unfold b14 b13 b12 b11 b10 b9 b8 b7 b6 b5 b4 b3 b2
  pointwise
  have := word_sq ⟨k, hk⟩
  dsimp only at this
  show Ideal.sqrt (((BitVec.toInt _ : ℝ)) : EReal) = _
  rw [this, Ideal.sqrt_coe]
  norm_num

/-- The weight of trip `k`. -/
theorem b34_at (k : ℕ) (hk : k < 121) (r x : Fin 512) :
    b34 k (states a0 a1 k) (ix2 r x) = refWeight (A_main_v1 a0 a1 (ix2 r x)) (sq k) := by
  unfold b34 b33 b32 b31 b30 b29 b28 b27 b26 b25 b24 b23 b22 b21 b20 b19 b18 b17 b16 b15
  rw [states_0, states_1, states_2]
  unfold A_main_v6 A_main_v4 A_main_v3 A_main_v2 K_main_v5 K_main_cst
  pointwise
  rw [b14_at k hk]
  rw [ofBits_half, ofBits_four, ofBits_eps]
  unfold refWeight reach
  congr 1
  show ((((BitVec.ofBool (decide (((Real.sqrt (sq k) : ℝ) : EReal) ≤ Ideal.liftRound Int.floor (mag (A_main_v1 a0 a1 (ix2 r x))) + 1))).toNat : ℝ)) : EReal) = _
  by_cases h : ((Real.sqrt (sq k) : ℝ) : EReal) ≤ Ideal.liftRound Int.floor (mag (A_main_v1 a0 a1 (ix2 r x))) + 1
  · rw [if_pos h, decide_eq_true h]; simp
  · rw [if_neg h, decide_eq_false h]; simp

/-- The words the slice of trip `k` starts at. -/
theorem word_start : ∀ k : Fin 121,
    (Scalar.select (IntOp.cmpi .slt (IntOp.subi 5#32 (IntOp.subi (IntOp.divsi .host (BitVec.ofNat 32 k.val) 11#32) 5#32)) 0#32)
      (IntOp.addi (IntOp.subi 5#32 (IntOp.subi (IntOp.divsi .host (BitVec.ofNat 32 k.val) 11#32) 5#32)) 522#32)
      (IntOp.subi 5#32 (IntOp.subi (IntOp.divsi .host (BitVec.ofNat 32 k.val) 11#32) 5#32))).toInt = ((10 - k.val / 11 : ℕ) : ℤ)
    ∧ (Scalar.select (IntOp.cmpi .slt (IntOp.subi 5#32 (IntOp.subi (IntOp.remsi .host (BitVec.ofNat 32 k.val) 11#32) 5#32)) 0#32)
      (IntOp.addi (IntOp.subi 5#32 (IntOp.subi (IntOp.remsi .host (BitVec.ofNat 32 k.val) 11#32) 5#32)) 522#32)
      (IntOp.subi 5#32 (IntOp.subi (IntOp.remsi .host (BitVec.ofNat 32 k.val) 11#32) 5#32))).toInt = ((10 - k.val % 11 : ℕ) : ℤ) := by
  decide +kernel

/-- A padded plane cut at a start of at most ten: the plane shifted, nothing beyond its edges. -/
theorem pad_cut2 (f : S512x512.Idx → EReal) (v : S_.Idx → EReal) (hv : v (Shape.Idx.first h_S_) = 0) (o p : ℕ) (ho : o ≤ 10) (hp : p ≤ 10)
    (st : Fin 2 → ℤ) (hst : ∀ a, st a = ((![o, p] : Fin 2 → ℕ) a : ℤ)) (r x : Fin 512) :
    Host.dynamicSlice S512x512 (pad S522x522 ![5, 5] ![5, 5] ![0, 0] f v pads_S512x512_S522x522_550_550 h_S_) st sliceFits_S522x522_S512x512 (ix2 r x)
      = guard (fun r x => f (at2 r x)) ((r.val : ℤ) + o - 5) ((x.val : ℤ) + p - 5) := by
  refine (congrFun (Host.dynamicSlice_eq_extractStridedSlice (s := S522x522) _ _ st ![o, p] _
    (by refine ⟨rfl, fun a => ?_⟩; fin_cases a <;> simp <;> omega) hst) _).trans ?_
  unfold extractStridedSlice guard
  have hr := r.isLt
  have hx := x.isLt
  by_cases h : (0 ≤ (r.val : ℤ) + o - 5 ∧ (r.val : ℤ) + o - 5 < 512) ∧ (0 ≤ (x.val : ℤ) + p - 5 ∧ (x.val : ℤ) + p - 5 < 512)
  · rw [if_pos h]
    refine pad_apply_of_inside _ _ _ _ _ _ _ _ _ fun a => ?_
    fin_cases a
    · show o + r.val = 5 + (((r.val : ℤ) + o - 5).toNat % 512) * (0 + 1); omega
    · show p + x.val = 5 + (((x.val : ℤ) + p - 5).toNat % 512) * (0 + 1); omega
  · rw [if_neg h, ← hv]
    by_cases h1 : 0 ≤ (r.val : ℤ) + o - 5 ∧ (r.val : ℤ) + o - 5 < 512
    · refine pad_apply_of_not_inside _ _ _ _ _ _ _ _ 1 ?_
      show ¬ (5 ≤ p + x.val ∧ (p + x.val - 5) % (0 + 1) = 0 ∧ (p + x.val - 5) / (0 + 1) < 512)
      omega
    · refine pad_apply_of_not_inside _ _ _ _ _ _ _ _ 0 ?_
      show ¬ (5 ≤ o + r.val ∧ (o + r.val - 5) % (0 + 1) = 0 ∧ (o + r.val - 5) / (0 + 1) < 512)
      omega

/-- The same of the three colours at once. -/
theorem pad_cut3 (f : S3x512x512.Idx → EReal) (v : S_.Idx → EReal) (hv : v (Shape.Idx.first h_S_) = 0) (o p : ℕ) (ho : o ≤ 10) (hp : p ≤ 10)
    (st : Fin 3 → ℤ) (hst : ∀ a, st a = ((![0, o, p] : Fin 3 → ℕ) a : ℤ)) (c : Fin 3) (r x : Fin 512) :
    Host.dynamicSlice S3x512x512 (pad S3x522x522 ![0, 5, 5] ![0, 5, 5] ![0, 0, 0] f v pads_S3x512x512_S3x522x522_000_550_550 h_S_) st
        sliceFits_S3x522x522_S3x512x512 (ix3 c r x)
      = guard (fun r x => f (at3 c.val r x)) ((r.val : ℤ) + o - 5) ((x.val : ℤ) + p - 5) := by
  refine (congrFun (Host.dynamicSlice_eq_extractStridedSlice (s := S3x522x522) _ _ st ![0, o, p] _
    (by refine ⟨rfl, fun a => ?_⟩; fin_cases a <;> simp <;> omega) hst) _).trans ?_
  unfold extractStridedSlice guard
  have hr := r.isLt
  have hx := x.isLt
  have hc := c.isLt
  by_cases h : (0 ≤ (r.val : ℤ) + o - 5 ∧ (r.val : ℤ) + o - 5 < 512) ∧ (0 ≤ (x.val : ℤ) + p - 5 ∧ (x.val : ℤ) + p - 5 < 512)
  · rw [if_pos h]
    refine pad_apply_of_inside _ _ _ _ _ _ _ _ _ fun a => ?_
    fin_cases a
    · show 0 + c.val = 0 + c.val % 3 * (0 + 1); omega
    · show o + r.val = 5 + (((r.val : ℤ) + o - 5).toNat % 512) * (0 + 1); omega
    · show p + x.val = 5 + (((x.val : ℤ) + p - 5).toNat % 512) * (0 + 1); omega
  · rw [if_neg h, ← hv]
    by_cases h1 : 0 ≤ (r.val : ℤ) + o - 5 ∧ (r.val : ℤ) + o - 5 < 512
    · refine pad_apply_of_not_inside _ _ _ _ _ _ _ _ 2 ?_
      show ¬ (5 ≤ p + x.val ∧ (p + x.val - 5) % (0 + 1) = 0 ∧ (p + x.val - 5) / (0 + 1) < 512)
      omega
    · refine pad_apply_of_not_inside _ _ _ _ _ _ _ _ 1 ?_
      show ¬ (5 ≤ o + r.val ∧ (o + r.val - 5) % (0 + 1) = 0 ∧ (o + r.val - 5) / (0 + 1) < 512)
      omega

/-- Trip `k`'s contribution to plane `p` at a pixel. -/
def trip (img : Pic.Idx → EReal) (dfc : Pln.Idx → EReal) (p k : ℕ) (r x : ℤ) : EReal :=
  guard (refPlane img dfc p (sq k)) (r + (10 - k / 11 : ℕ) - 5) (x + (10 - k % 11 : ℕ) - 5)

/-- What trip `k` adds to the weights. -/
theorem b79_at (k : ℕ) (hk : k < 121) (r x : Fin 512) :
    b79 k (states a0 a1 k) (ix2 r x) = trip (A_main_v0 a0 a1) (A_main_v1 a0 a1) 0 k r.val x.val := by
  unfold b79 b43
  refine (pad_cut2 _ _ ?_ (10 - k / 11) (10 - k % 11) (by omega) (by omega) _ (fun a => ?_) r x).trans ?_
  · unfold b42 b41
    show (((BitVec.toInt (0#32) : ℝ)) : EReal) = 0
    simp
  · obtain ⟨h1, h2⟩ := word_start ⟨k, hk⟩
    fin_cases a
    · exact h1
    · exact h2
  · unfold trip
    congr 1
    funext r x
    exact b34_at a0 a1 k hk _ _

/-- What trip `k` adds to the colours. -/
theorem b61_at (k : ℕ) (hk : k < 121) (c : Fin 3) (r x : Fin 512) :
    b61 k (states a0 a1 k) (ix3 c r x) = trip (A_main_v0 a0 a1) (A_main_v1 a0 a1) (c.val + 1) k r.val x.val := by
  unfold b61 b40
  refine (pad_cut3 _ _ ?_ (10 - k / 11) (10 - k % 11) (by omega) (by omega) _ (fun a => ?_) c r x).trans ?_
  · unfold b39 b38
    show (((BitVec.toInt (0#32) : ℝ)) : EReal) = 0
    simp
  · obtain ⟨h1, h2⟩ := word_start ⟨k, hk⟩
    fin_cases a
    · rfl
    · exact h1
    · exact h2
  · unfold trip
    congr 1
    funext r x
    unfold b37 b36 b35 at3
    rw [states_3]
    pointwise
    rw [b34_at a0 a1 k hk]
    rfl

/-- The weights after `n` trips. -/
theorem weights_at (n : ℕ) (hn : n ≤ 121) (r x : Fin 512) :
    (states a0 a1 n).main_v9_7 (ix2 r x) = ∑ k ∈ Finset.range n, trip (A_main_v0 a0 a1) (A_main_v1 a0 a1) 0 k r.val x.val := by
  induction n with
  | zero =>
    show K_main_v8 (F := Ideal) (ix2 r x) = _
    unfold K_main_v8 K_main_cst_1
    pointwise
    simp
  | succ n ih =>
    rw [Finset.sum_range_succ, ← ih (by omega), ← b79_at a0 a1 n (by omega)]
    show b80 n (states a0 a1 n) (ix2 r x) = _
    unfold b80
    pointwise

/-- The colours after `n` trips. -/
theorem colours_at (n : ℕ) (hn : n ≤ 121) (c : Fin 3) (r x : Fin 512) :
    (states a0 a1 n).main_v9_6 (ix3 c r x) = ∑ k ∈ Finset.range n, trip (A_main_v0 a0 a1) (A_main_v1 a0 a1) (c.val + 1) k r.val x.val := by
  induction n with
  | zero =>
    show K_main_v7 (F := Ideal) (ix3 c r x) = _
    unfold K_main_v7 K_main_cst_0
    pointwise
    simp
  | succ n ih =>
    rw [Finset.sum_range_succ, ← ih (by omega), ← b61_at a0 a1 n (by omega)]
    show b62 n (states a0 a1 n) (ix3 c r x) = _
    unfold b62
    pointwise

/-- THE REFERENCE'S RESULT: the sum of the colours' trips divided by the sum of the weights'. -/
theorem result_at (c : Fin 3) (r x : Fin 512) :
    R_main_v12 (states a0 a1 121) (ix3 c r x)
      = Ideal.div (∑ k ∈ Finset.range 121, trip (A_main_v0 a0 a1) (A_main_v1 a0 a1) (c.val + 1) k r.val x.val)
        (∑ k ∈ Finset.range 121, trip (A_main_v0 a0 a1) (A_main_v1 a0 a1) 0 k r.val x.val) := by
  rw [← weights_at a0 a1 121 le_rfl, ← colours_at a0 a1 121 le_rfl]
  unfold R_main_v12
  pointwise

end Cert.Blur

end
-- ==== Proof.Weights.lean ====
/- THE WEIGHTS, for a defocus below five in magnitude: the kernel's and the reference's are one real number, never
   negative, positive at the pixel itself, and nothing beyond squared distance 25. -/
module

public import proofs.«01_k».proof.Proof.RefTrip
public import Mathlib.Analysis.SpecialFunctions.Artanh

@[expose] public section

noncomputable section

namespace Cert.Blur

open Idealize.ShloMosaic

/-- A quotient of reals by a number that is not zero. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The weight as a real number, of a radius `ρ`. -/
def wt (ρ : ℝ) (n : ℕ) : ℝ :=
  if Real.sqrt n ≤ (⌊ρ⌋ : ℝ) + 1 then (1 / 2 + 1 / 2 * Real.tanh (4 * (ρ - Real.sqrt n))) / (ρ * ρ + eps) else 0

/-- What a small defocus is: a real whose magnitude is a radius in `[0, 5)`. -/
theorem small_radius (δ : EReal) (h : mag δ < ((5 : ℝ) : EReal)) : ∃ ρ : ℝ, mag δ = (ρ : EReal) ∧ 0 ≤ ρ ∧ ρ < 5 := by
  unfold mag at h ⊢
  induction δ with
  | bot => simp at h
  | top => simp at h
  | coe d =>
    have e : max (d : EReal) (-(d : EReal)) = ((|d| : ℝ) : EReal) := by
      rw [abs_eq_max_neg, EReal.coe_strictMono.monotone.map_max, EReal.coe_neg]
    rw [e] at h ⊢
    exact ⟨|d|, rfl, abs_nonneg d, by exact_mod_cast h⟩

variable (δ : EReal) (ρ : ℝ) (hδ : mag δ = (ρ : EReal)) (h0 : 0 ≤ ρ)

include h0 in
theorem den_pos : 0 < ρ * ρ + eps := by have := eps_pos; positivity

include hδ in
/-- The reach of a small defocus. -/
theorem reach_real : reach δ = (((⌊ρ⌋ : ℝ) + 1 : ℝ) : EReal) := by
  unfold reach
  rw [hδ, EReal.coe_add]
  rfl

include hδ h0 in
/-- The reference's weight is the real one. -/
theorem refWeight_real (n : ℕ) : refWeight δ n = ((wt ρ n : ℝ) : EReal) := by
  have hd := (den_pos ρ h0).ne'
  unfold refWeight wt
  rw [reach_real δ ρ hδ, hδ, ← EReal.coe_sub, ← EReal.coe_mul, Ideal.tanh_coe, ← EReal.coe_mul, ← EReal.coe_add, ← EReal.coe_mul,
    ← EReal.coe_add, div_real _ _ hd]
  simp only [EReal.coe_le_coe_iff]
  split_ifs
  · rw [mul_one]
  · rw [mul_zero]; rfl

include hδ h0 in
/-- So is the kernel's. -/
theorem weight_real (n : ℕ) : weight δ n = ((wt ρ n : ℝ) : EReal) := by
  have hd := (den_pos ρ h0).ne'
  unfold weight wt halfInv
  rw [reach_real δ ρ hδ, hδ, ← EReal.coe_mul, ← EReal.coe_mul, ← EReal.coe_add, div_real _ _ hd, ← EReal.coe_sub, Ideal.tanh_coe,
    ← EReal.coe_mul, ← EReal.coe_add]
  have hn : (n ≤ 1 ∨ ((Real.sqrt n : ℝ) : EReal) ≤ (((⌊ρ⌋ : ℝ) + 1 : ℝ) : EReal)) ↔ Real.sqrt n ≤ (⌊ρ⌋ : ℝ) + 1 := by
    rw [EReal.coe_le_coe_iff]
    refine ⟨fun h => h.elim (fun h => ?_) id, Or.inr⟩
    have h1 : Real.sqrt n ≤ 1 := Real.sqrt_le_one.mpr (by exact_mod_cast h)
    have h2 : (0 : ℝ) ≤ (⌊ρ⌋ : ℝ) := by exact_mod_cast Int.floor_nonneg.mpr h0
    linarith
  simp only [hn]
  split_ifs
  · congr 1
    rw [← mul_sub]
    ring
  · rfl

include h0 in
/-- A weight is never negative. -/
theorem wt_nonneg (n : ℕ) : 0 ≤ wt ρ n := by
  unfold wt
  split_ifs
  · have := Real.neg_one_lt_tanh (4 * (ρ - Real.sqrt n))
    exact div_nonneg (by linarith) (den_pos ρ h0).le
  · exact le_rfl

include h0 in
/-- A pixel's weight to itself is positive. -/
theorem wt_self : 0 < wt ρ 0 := by
  unfold wt
  have h2 : (0 : ℝ) ≤ (⌊ρ⌋ : ℝ) := by exact_mod_cast Int.floor_nonneg.mpr h0
  rw [if_pos (by simp; linarith)]
  have ht : ∀ y, 0 < 1 / 2 + 1 / 2 * Real.tanh y := fun y => by linarith [Real.neg_one_lt_tanh y]
  exact div_pos (ht _) (den_pos ρ h0)

/-- Beyond squared distance 25 there is no weight. -/
theorem wt_far (h5 : ρ < 5) (n : ℕ) (hn : 25 < n) : wt ρ n = 0 := by
  unfold wt
  rw [if_neg]
  have h1 : ⌊ρ⌋ ≤ 4 := by
    have : ⌊ρ⌋ < 5 := Int.floor_lt.mpr (by exact_mod_cast h5)
    omega
  have h2 : (⌊ρ⌋ : ℝ) ≤ 4 := by exact_mod_cast h1
  have h3 : (5 : ℝ) < Real.sqrt n := by
    rw [Real.lt_sqrt (by norm_num)]
    have : (25 : ℝ) < n := by exact_mod_cast hn
    linarith
  linarith

/-- The small defocus: every pixel's magnitude is below five. -/
def Small (dfc : Pln.Idx → EReal) : Prop := ∀ i, mag (dfc i) < ((5 : ℝ) : EReal)

variable {img : Pic.Idx → EReal} {dfc : Pln.Idx → EReal} (hs : Small dfc)

include hs in
/-- On a small defocus the two programs' planes are the same. -/
theorem plane_eq (p n : ℕ) : plane img dfc p n = refPlane img dfc p n := by
  funext r x
  obtain ⟨ρ, hδ, h0, -⟩ := small_radius _ (hs (at2 r x))
  have e : weight (dfc (at2 r x)) n = refWeight (dfc (at2 r x)) n := (weight_real _ ρ hδ h0 n).trans (refWeight_real _ ρ hδ h0 n).symm
  cases p with
  | zero => exact e
  | succ c => show _ * _ = _ * _; rw [e]

include hs in
/-- A plane beyond squared distance 25 is nothing. -/
theorem refPlane_far (p n : ℕ) (hn : 25 < n) (r x : ℕ) : refPlane img dfc p n r x = 0 := by
  obtain ⟨ρ, hδ, h0, h5⟩ := small_radius _ (hs (at2 r x))
  have e : refWeight (dfc (at2 r x)) n = 0 := by rw [refWeight_real _ ρ hδ h0 n, wt_far ρ h5 n hn]; rfl
  cases p with
  | zero => exact e
  | succ c => show _ * _ = _; rw [e, zero_mul]

include hs in
/-- The weights' plane is never negative. -/
theorem refPlane_nonneg (n r x : ℕ) : 0 ≤ refPlane img dfc 0 n r x := by
  obtain ⟨ρ, hδ, h0, -⟩ := small_radius _ (hs (at2 r x))
  show 0 ≤ refWeight _ n
  rw [refWeight_real _ ρ hδ h0 n]
  exact_mod_cast wt_nonneg ρ h0 n

include hs in
/-- A pixel's own weight is positive. -/
theorem refPlane_self (r x : ℕ) : 0 < refPlane img dfc 0 0 r x := by
  obtain ⟨ρ, hδ, h0, -⟩ := small_radius _ (hs (at2 r x))
  show 0 < refWeight _ 0
  rw [refWeight_real _ ρ hδ h0 0]
  exact_mod_cast wt_self ρ h0

end Cert.Blur

end
-- ==== Proof.Sums.lean ====
/- THE TWO WAYS OF ADDING UP. The reference walks the 121 offsets of the 11 by 11 square one by one; the kernel adds the two
   signs of an offset together and leaves out the offsets outside the disc. Where nothing lies outside the disc the sums
   are one. -/
module

public import proofs.«01_k».proof.Proof.Weights

@[expose] public section

noncomputable section

namespace Cert.Blur

open Idealize.ShloMosaic

/-- A sum over `w n` in `n` runs of `w`. -/
theorem sum_runs (w n : ℕ) (f : ℕ → EReal) :
    ∑ k ∈ Finset.range (w * n), f k = ∑ a ∈ Finset.range n, ∑ t ∈ Finset.range w, f (w * a + t) := by
  induction n with
  | zero => simp
  | succ n ih => rw [Nat.mul_succ, Finset.sum_range_add, ih, Finset.sum_range_succ _ n]

/-- The offset `a` with both its signs. -/
def both (a : ℕ) (h : ℤ → EReal) : EReal := if a = 0 then h 0 else h (-a) + h a

/-- The eleven offsets from five down to minus five are the six distances with both signs. -/
theorem sum_both (h : ℤ → EReal) : ∑ i ∈ Finset.range 11, h (5 - (i : ℕ)) = ∑ a ∈ Finset.range 6, both a h := by
  simp only [Finset.sum_range_succ, Finset.sum_range_zero, both]
  norm_num
  abel

/-- The squared length of an offset, from the magnitudes of its parts. -/
def len (u v : ℤ) : ℕ := u.natAbs * u.natAbs + v.natAbs * v.natAbs

/-- Trip `11 i + j` is the offset `(5 - i, 5 - j)`. -/
theorem sq_len : ∀ i j : Fin 11, sq (11 * i.val + j.val) = len (5 - (i.val : ℕ)) (5 - (j.val : ℕ)) := by decide +kernel

/-- Beyond its rows a column offset's squared lengths exceed 25. -/
theorem rows_far : ∀ a b : Fin 6, ¬ a.val < rows b.val → 25 < a.val * a.val + b.val * b.val := by decide

variable (P : ℕ → ℤ → ℤ → EReal) (hP : ∀ n, 25 < n → ∀ y z, P n y z = 0) (r x : ℤ)

include hP in
/-- The row offsets at one column offset, added with both signs, are the row part. -/
theorem sum_rowPart (v : ℤ) (b : ℕ) (hb : b < 6) (hv : v.natAbs = b) :
    ∑ a ∈ Finset.range 6, both a (fun u => P (len u v) (r + u) (x + v)) = rowPart P b r (x + v) := by
  have hr : rows b ≤ 6 := by interval_cases b <;> decide
  unfold rowPart
  rw [← Finset.sum_subset (Finset.range_mono hr)]
  · refine Finset.sum_congr rfl fun a _ => ?_
    unfold both mirror len
    simp only [hv, Int.natAbs_neg, Int.natAbs_natCast, Int.natAbs_zero]
    by_cases ha : a = 0
    · rw [if_pos ha, if_pos ha, ha, add_zero]
    · rw [if_neg ha, if_neg ha, ← sub_eq_add_neg]
  · intro a ha hn
    have ha := Finset.mem_range.mp ha
    have hf := rows_far ⟨a, ha⟩ ⟨b, hb⟩ (fun h => hn (Finset.mem_range.mpr h))
    dsimp only at hf
    unfold both len
    simp only [hv, Int.natAbs_neg, Int.natAbs_natCast, Int.natAbs_zero]
    by_cases h0 : a = 0
    · subst h0; rw [if_pos rfl, hP _ (by simpa using hf)]
    · rw [if_neg h0, hP _ hf, hP _ hf, add_zero]

include hP in
/-- THE 121 TRIPS ADD UP TO THE SPREAD, where nothing lies beyond squared distance 25. -/
theorem sum_trips :
    ∑ k ∈ Finset.range 121, P (sq k) (r + (10 - k / 11 : ℕ) - 5) (x + (10 - k % 11 : ℕ) - 5) = spread P r x := by
  have h1 : ∑ k ∈ Finset.range 121, P (sq k) (r + (10 - k / 11 : ℕ) - 5) (x + (10 - k % 11 : ℕ) - 5)
      = ∑ i ∈ Finset.range 11, ∑ j ∈ Finset.range 11, P (len (5 - (i : ℕ)) (5 - (j : ℕ))) (r + (5 - (i : ℕ))) (x + (5 - (j : ℕ))) := by
    refine (sum_runs 11 11 _).trans (Finset.sum_congr rfl fun i hi => Finset.sum_congr rfl fun j hj => ?_)
    have hi := Finset.mem_range.mp hi
    have hj := Finset.mem_range.mp hj
    rw [sq_len ⟨i, hi⟩ ⟨j, hj⟩, show (11 * i + j) / 11 = i by omega, show (11 * i + j) % 11 = j by omega]
    congr 1 <;> omega
  rw [h1, Finset.sum_comm]
  unfold spread
  rw [sum_both (fun v => ∑ i ∈ Finset.range 11, P (len (5 - (i : ℕ)) v) (r + (5 - (i : ℕ))) (x + v))]
  refine Finset.sum_congr rfl fun b hb => ?_
  have hb := Finset.mem_range.mp hb
  have key : ∀ v : ℤ, v.natAbs = b → ∑ i ∈ Finset.range 11, P (len (5 - (i : ℕ)) v) (r + (5 - (i : ℕ))) (x + v) = rowPart P b r (x + v) :=
    fun v hv => (sum_both (fun u => P (len u v) (r + u) (x + v))).trans (sum_rowPart P hP r x v b hb hv)
  unfold both mirror
  dsimp only
  by_cases h0 : b = 0
  · rw [if_pos h0, if_pos h0, key 0 (by omega), add_zero]
  · rw [if_neg h0, if_neg h0, key (-b) (by omega), key b (by omega), ← sub_eq_add_neg]

variable {img : Pic.Idx → EReal} {dfc : Pln.Idx → EReal} (hs : Small dfc)

include hs in
/-- On a small defocus the trips of plane `p` add up to the kernel's total. -/
theorem trips_total (p : ℕ) : ∑ k ∈ Finset.range 121, trip img dfc p k r x = total img dfc p r x := by
  unfold total
  simp only [plane_eq hs]
  refine sum_trips (fun n => guard (refPlane img dfc p n)) (fun n hn y z => ?_) r x
  unfold guard
  split_ifs
  · exact refPlane_far hs p n hn _ _
  · rfl

include hs in
/-- Inside the picture the weights' total is positive. -/
theorem total_pos (r x : Fin 512) : 0 < total img dfc 0 r.val x.val := by
  rw [← trips_total (r := r.val) (x := x.val) hs 0]
  have hn : ∀ k ∈ Finset.range 121, 0 ≤ trip img dfc 0 k r.val x.val := fun k _ => by
    unfold trip guard
    split_ifs
    · exact refPlane_nonneg hs _ _ _
    · exact le_rfl
  refine lt_of_lt_of_le ?_ (Finset.single_le_sum hn (Finset.mem_range.mpr (show 60 < 121 by decide)))
  have hr := r.isLt
  have hx := x.isLt
  unfold trip guard
  rw [if_pos (by omega), show sq 60 = 0 by decide]
  exact refPlane_self hs _ _

/-- THE EQUATION: on a small defocus the reference's quotient is the blurred picture. -/
theorem quotient_eq (hs : Small dfc) (c : Fin 3) (r x : Fin 512) :
    Ideal.div (∑ k ∈ Finset.range 121, trip img dfc (c.val + 1) k r.val x.val) (∑ k ∈ Finset.range 121, trip img dfc 0 k r.val x.val)
      = blurred img dfc (ix3 c r x) := by
  rw [trips_total _ _ hs, trips_total _ _ hs]
  exact (Ideal.mul_one_div (total_pos hs r x).ne').symm

end Cert.Blur

end
-- ==== Proof.Final.lean ====
/- THE PRECONDITION read off at every pixel, and the reference's array against the kernel's. -/
module

public import proofs.«01_k».proof.Pre_small
public import proofs.«01_k».proof.Proof.Gen.Pre_small
public import proofs.«01_k».proof.Proof.Sums
public import Idealize.ShloMosaic.Lib.ReduceAll

@[expose] public section

noncomputable section

namespace Cert.Blur

open Idealize.ShloMosaic Cert.ReferenceIdeal.Step

instance : Subsingleton Cert.Pre_small.S_.Idx := ⟨fun i j => funext fun d => d.elim0⟩

/-- The predicate `small` of the arguments says that the magnitude of every defocus is below five. -/
theorem small_of_pre (a0 : FVec Ideal Cert.Pre_small.S1x3x512x512 .f32) (a1 : FVec Ideal Cert.Pre_small.S1x1x512x512 .f32)
    (h : Cert.Pre_small.fn (F := Ideal) a0 a1 = fun _ => 1#1) (i : Cert.Pre_small.S1x1x512x512.Idx) :
    mag (a1 i) < ((5 : ℝ) : EReal) := by
  have e := Host.reduce_andi_all _ _ _ _ (Shape.Idx.first Cert.Pre_small.Gen.facts.h_S_) (congrFun h _) i
  have e : BitVec.ofBool (decide (mag (a1 i) < Ideal.ofBits .f32 0x40A00000#32)) = 1#1 := e
  rw [ofBits_five] at e
  by_contra hn
  rw [decide_eq_false hn] at e
  exact absurd e (by decide)

/-- THE EQUATION OF THE ARRAYS: from arguments of small defocus the reference's loop ends with the blurred picture. -/
theorem reference_eq (a0 : FVec Ideal Cert.Pre_small.S1x3x512x512 .f32) (a1 : FVec Ideal Cert.Pre_small.S1x1x512x512 .f32)
    (h : Cert.Pre_small.fn (F := Ideal) a0 a1 = fun _ => 1#1) :
    R_main_v12 (states a0 a1 121) = blurred (A_main_v0 (F := Ideal) a0 a1) (A_main_v1 (F := Ideal) a0 a1) := by
  have hs : Small (A_main_v1 (F := Ideal) a0 a1) := fun _ => small_of_pre a0 a1 h _
  funext i
  obtain ⟨c, r, x, rfl⟩ : ∃ (c : Fin 3) (r x : Fin 512), i = ix3 c r x := ⟨i 0, i 1, i 2, ValueIdx.eq_ix3 i⟩
  exact (result_at a0 a1 c r x).trans (quotient_eq hs c r x)

end Cert.Blur

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_small
public import proofs.«01_k».proof.Proof.Gen.KernelIdeal.Value
public import proofs.«01_k».proof.Proof.Gen.ReferenceIdeal.Run
public import proofs.«01_k».proof.Proof.Gen.ReferenceIdeal.StepRun
public import Idealize.ShloMosaic.Adequacy
public import Idealize.ShloMosaic.Init
public import Idealize.ShloMosaic.Lib.Quiescent
public import proofs.«01_k».proof.Proof.KernelValue
public import proofs.«01_k».proof.Proof.Final

@[expose] public section

noncomputable section

namespace Cert.Proof

open Idealize.ShloMosaic Idealize.SL.Sem Cert.Kernel

/-- The reference terminates, leaves its arguments as they were and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun r h => ⟨fun c => (h c).2, Idealize.ShloMosaic.sem_eq_zero_of_no_sems (by decide) r.2⟩)
    (Cert.ReferenceIdeal.Value.run (F := Ideal) m g)

/-- Each named constant has the value that the table gives it. -/
theorem preserves : Cert.preserves_Kernel_KernelIdeal := by
  unfold Cert.preserves_Kernel_KernelIdeal
  refine ⟨?_, ?_, ?_, ?_, ?_, ?_, ?_, ?_, ?_, ?_, ?_, ?_, ?_, ?_, ?_, ?_⟩ <;>
    exact IdealRules.named_const.statement _ _ _ _ _ rfl

/-- Kernel and reference end with the same picture, where every defocus is below five in magnitude. -/
theorem algebraic : Cert.algebraic_KernelIdeal_ReferenceIdeal_pre_small := by
  intro m g m' g' hpre hagree
  refine ⟨fun c => Cert.Blur.blurred (Cert.Blur.pic m c) (Cert.Blur.dfc m c), Cert.Blur.kernel_run m g, ?_⟩
  have hrun := Cert.ReferenceIdeal.StepRun.run_iter (F := Ideal) m' g'
    (fun c => Cert.Blur.states (m' (c.tc.loc Cert.ReferenceIdeal.main_arg0)) (m' (c.tc.loc Cert.ReferenceIdeal.main_arg1)))
    (fun c => rfl) (fun c n => rfl)
  refine (θ_run _ _ _).mono (fun _ h c => ⟨(h c).1.trans ?_, (h c).2⟩) hrun
  dsimp only
  rw [(hagree c).1, (hagree c).2]
  exact Cert.Blur.reference_eq _ _ (hpre c)

/-- The certificate: the three frames, the named constants and the equation. -/
theorem claim : Cert.Claim := ⟨Cert.Kernel.Gen.facts, Cert.KernelIdeal.Gen.facts, Cert.ReferenceIdeal.Gen.facts, Cert.Pre_small.Gen.facts,
  fun m g _ => Cert.Kernel.Gen.frame m g, fun m g _ => Cert.KernelIdeal.Gen.frame m g, fun m g _ => Cert.KernelIdeal.Gen.frame m g,
  fun m g _ => reference_frame m g, fun m g _ => reference_frame m g, preserves, algebraic⟩

end Cert.Proof

end
